-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x3072 : Shape := ⟨3, ![6, 1024, 3072]⟩
abbrev S8192x3072 : Shape := ⟨2, ![8192, 3072]⟩
abbrev S8192 : Shape := ⟨1, ![8192]⟩
abbrev S32x3072 : Shape := ⟨2, ![32, 3072]⟩
abbrev S8192x32 : Shape := ⟨2, ![8192, 32]⟩
abbrev S6144x3072 : Shape := ⟨2, ![6144, 3072]⟩
abbrev S1x8192 : Shape := ⟨2, ![1, 8192]⟩
abbrev S6144x8192 : Shape := ⟨2, ![6144, 8192]⟩
abbrev S6x1x1024 : Shape := ⟨3, ![6, 1, 1024]⟩
abbrev S1024x3072 : Shape := ⟨2, ![1024, 3072]⟩
abbrev S1x1024 : Shape := ⟨2, ![1, 1024]⟩
abbrev S1024x32 : Shape := ⟨2, ![1024, 32]⟩
abbrev S1024x1024 : Shape := ⟨2, ![1024, 1024]⟩
abbrev S1x1x1024 : Shape := ⟨3, ![1, 1, 1024]⟩
abbrev S1024x128 : Shape := ⟨2, ![1024, 128]⟩
abbrev S8x1x1024 : Shape := ⟨3, ![8, 1, 1024]⟩
abbrev S1024 : Shape := ⟨1, ![1024]⟩
abbrev S1024x1 : Shape := ⟨2, ![1024, 1]⟩
abbrev S128x128 : Shape := ⟨2, ![128, 128]⟩
abbrev S1x128 : Shape := ⟨2, ![1, 128]⟩
abbrev S32x1024 : Shape := ⟨2, ![32, 1024]⟩
abbrev S256x128 : Shape := ⟨2, ![256, 128]⟩
abbrev S256x32 : Shape := ⟨2, ![256, 32]⟩
abbrev S1x256 : Shape := ⟨2, ![1, 256]⟩
abbrev S128x256 : Shape := ⟨2, ![128, 256]⟩
abbrev S32x512 : Shape := ⟨2, ![32, 512]⟩
abbrev S256x512 : Shape := ⟨2, ![256, 512]⟩
abbrev S256 : Shape := ⟨1, ![256]⟩
abbrev S1x1x256 : Shape := ⟨3, ![1, 1, 256]⟩
abbrev S512x3072 : Shape := ⟨2, ![512, 3072]⟩
abbrev S1024x512 : Shape := ⟨2, ![1024, 512]⟩
abbrev S512x32 : Shape := ⟨2, ![512, 32]⟩
abbrev S1x512 : Shape := ⟨2, ![1, 512]⟩
abbrev S1x1x512 : Shape := ⟨3, ![1, 1, 512]⟩

abbrev nBuf : Space → Nat
  | .hbm => 13
  | .vmem => 22
  | .smem => 0
  | _ => 0

abbrev bufTy : (tb : Table) → Fin (tcTables nBuf tb) → BufTy
  | .hbm, ⟨0, _⟩ => ⟨S6x1024x3072, .bf16⟩
  | .hbm, ⟨1, _⟩ => ⟨S8192x3072, .fp8e4m3⟩
  | .hbm, ⟨2, _⟩ => ⟨S8192, .f32⟩
  | .hbm, ⟨3, _⟩ => ⟨S32x3072, .bf16⟩
  | .hbm, ⟨4, _⟩ => ⟨S8192x32, .bf16⟩
  | .hbm, ⟨5, _⟩ => ⟨S8192, .f32⟩
  | .hbm, ⟨6, _⟩ => ⟨S6144x3072, .bf16⟩
  | .hbm, ⟨7, _⟩ => ⟨S1x8192, .f32⟩
  | .hbm, ⟨8, _⟩ => ⟨S1x8192, .f32⟩
  | .hbm, ⟨9, _⟩ => ⟨S6144x8192, .bf16⟩
  | .hbm, ⟨10, _⟩ => ⟨S1x8192, .f32⟩
  | .hbm, ⟨11, _⟩ => ⟨S6144x3072, .fp8e4m3⟩
  | .hbm, ⟨12, _⟩ => ⟨S6x1x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .fp8e4m3⟩
  | .local _ .vmem, ⟨3, _⟩ => ⟨S1024x3072, .fp8e4m3⟩
  | .local _ .vmem, ⟨4, _⟩ => ⟨S1x1024, .f32⟩
  | .local _ .vmem, ⟨5, _⟩ => ⟨S1x1024, .f32⟩
  | .local _ .vmem, ⟨6, _⟩ => ⟨S32x3072, .bf16⟩
  | .local _ .vmem, ⟨7, _⟩ => ⟨S1024x32, .bf16⟩
  | .local _ .vmem, ⟨8, _⟩ => ⟨S1024x32, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x3072, .fp8e4m3⟩
  | .local _ .vmem, ⟨16, _⟩ => ⟨S1024x3072, .fp8e4m3⟩
  | .local _ .vmem, ⟨17, _⟩ => ⟨S1x1x1024, .f32⟩
  | .local _ .vmem, ⟨18, _⟩ => ⟨S1x1x1024, .f32⟩
  | .local _ .vmem, ⟨19, _⟩ => ⟨S1024x128, .f32⟩
  | .local _ .vmem, ⟨20, _⟩ => ⟨S1024x32, .bf16⟩
  | .local _ .vmem, ⟨21, _⟩ => ⟨S8x1x1024, .f32⟩
  | _, _ => ⟨S6x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![6, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v234 : Index := Scalar.indexCast arg1
  let c0_72 : Index := 0#32
  let c0_73 : Index := 0#32
  ![v234.toNat, 0, 0]
def k0_off2 (i : grid0.Coords) : Fin 3 → Nat :=
  let arg1 : BitVec 32 := BitVec.ofNat 32 (i 1).val
  let v422 : Index := Scalar.indexCast arg1
  let c0_113 : Index := 0#32
  let c256_114 : Index := 256#32
  ![v422.toNat, 0, 256]
def k0_off3 (i : grid0.Coords) : Fin 3 → Nat :=
  let arg1 : BitVec 32 := BitVec.ofNat 32 (i 1).val
  let v610 : Index := Scalar.indexCast arg1
  let c0_155 : Index := 0#32
  let c512_156 : Index := 512#32
  ![v610.toNat, 0, 512]
def k0_off4 (i : grid0.Coords) : Fin 3 → Nat :=
  let arg1 : BitVec 32 := BitVec.ofNat 32 (i 1).val
  let v798 : Index := Scalar.indexCast arg1
  let c0_196 : Index := 0#32
  let c768_197 : Index := 768#32
  ![v798.toNat, 0, 768]
def k0_off5 (i : grid0.Coords) : Fin 3 → Nat :=
  let arg1 : BitVec 32 := BitVec.ofNat 32 (i 1).val
  let v20 : Index := Scalar.indexCast arg1
  let c0_15 : Index := 0#32
  let c0_16 : Index := 0#32
  ![v20.toNat, 0, 0]
def k0_off6 (i : grid0.Coords) : Fin 3 → Nat :=
  let arg1 : BitVec 32 := BitVec.ofNat 32 (i 1).val
  let v42 : Index := Scalar.indexCast arg1
  let c0_32 : Index := 0#32
  let c512_33 : Index := 512#32
  ![v42.toNat, 0, 512]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x3072 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S6x1024x3072 : Shape := ⟨3, ![6, 1024, 3072]⟩
abbrev S8192x3072 : Shape := ⟨2, ![8192, 3072]⟩
abbrev S8192 : Shape := ⟨1, ![8192]⟩
abbrev S32x3072 : Shape := ⟨2, ![32, 3072]⟩
abbrev S8192x32 : Shape := ⟨2, ![8192, 32]⟩
abbrev S6144x8192 : Shape := ⟨2, ![6144, 8192]⟩
abbrev S1x8192 : Shape := ⟨2, ![1, 8192]⟩
abbrev S6144x3072 : Shape := ⟨2, ![6144, 3072]⟩
abbrev S6x1x1024 : Shape := ⟨3, ![6, 1, 1024]⟩
abbrev S6144 : Shape := ⟨1, ![6144]⟩
abbrev S6144x1 : Shape := ⟨2, ![6144, 1]⟩
abbrev S8192x1 : Shape := ⟨2, ![8192, 1]⟩
abbrev S6144x32 : Shape := ⟨2, ![6144, 32]⟩

abbrev nBuf : Space → Nat
  | .hbm => 10
  | .vmem => 10
  | .smem => 0
  | _ => 0

abbrev bufTy : (tb : Table) → Fin (tcTables nBuf tb) → BufTy
  | .hbm, ⟨0, _⟩ => ⟨S6x1024x3072, .bf16⟩
  | .hbm, ⟨1, _⟩ => ⟨S8192x3072, .fp8e4m3⟩
  | .hbm, ⟨2, _⟩ => ⟨S8192, .f32⟩
  | .hbm, ⟨3, _⟩ => ⟨S32x3072, .bf16⟩
  | .hbm, ⟨4, _⟩ => ⟨S8192x32, .bf16⟩
  | .hbm, ⟨5, _⟩ => ⟨S8192, .f32⟩
  | .hbm, ⟨6, _⟩ => ⟨S6144x8192, .bf16⟩
  | .hbm, ⟨7, _⟩ => ⟨S1x8192, .f32⟩
  | .hbm, ⟨8, _⟩ => ⟨S6144x3072, .fp8e4m3⟩
  | .hbm, ⟨9, _⟩ => ⟨S6x1x1024, .f32⟩
  | .local _ .vmem, ⟨0, _⟩ => ⟨S6x1024x3072, .bf16⟩
  | .local _ .vmem, ⟨1, _⟩ => ⟨S8192x3072, .fp8e4m3⟩
  | .local _ .vmem, ⟨2, _⟩ => ⟨S8192, .f32⟩
  | .local _ .vmem, ⟨3, _⟩ => ⟨S32x3072, .bf16⟩
  | .local _ .vmem, ⟨4, _⟩ => ⟨S8192x32, .bf16⟩
  | .local _ .vmem, ⟨5, _⟩ => ⟨S8192, .f32⟩
  | .local _ .vmem, ⟨6, _⟩ => ⟨S6144x8192, .bf16⟩
  | .local _ .vmem, ⟨7, _⟩ => ⟨S1x8192, .f32⟩
  | .local _ .vmem, ⟨8, _⟩ => ⟨S6144x3072, .fp8e4m3⟩
  | .local _ .vmem, ⟨9, _⟩ => ⟨S6x1x1024, .f32⟩
  | _, _ => ⟨S6x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x1024x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x3072 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Spec.lean ====
module

public import proofs.«01_k».proof.Proof.Gen.KernelIdeal.Frame
public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one visit of the body leaves in each buffer, as functions of the blocks it reads -/

/-- A load of the whole of a buffer reads its contents. -/
theorem ld_all {S : Shape} {e : EltTy} {off : Fin S.rank → ℕ} (inb : ∀ a, off a + S.size a ≤ S.size a) (X : S.Idx → Elt F e) :
    View.ld X (Rect.unit off S.size inb) = X :=
  funext fun y => congrArg X (funext fun a => Fin.ext (by
    show off a + 1 * (y a).val = (y a).val
    have := inb a; omega))

/-- Contents `g` with the pieces stored over them, the last first in the list. -/
def overs {S : Shape} {e : EltTy} : List (View.Piece (Elt F) S e) → (S.Idx → Elt F e) → S.Idx → Elt F e
  | [], g => g
  | p :: L, g => p.1.overlay (overs L g) p.2

/-- What a buffer reads after the pieces are stored. -/
theorem read_writes_overs {S : Shape} {e : EltTy} {sp : Space} (v : View sig .tc sp S e) (f : v.ty.Contents (Elt F)) :
    ∀ L : List (View.Piece (Elt F) S e), v.read (Elt F) (v.writes (Elt F) f L) = overs L (v.read (Elt F) f)
  | [] => rfl
  | ⟨r, w⟩ :: L => by
    funext y
    by_cases hy : y ∈ r.set
    · obtain ⟨x, rfl⟩ : ∃ x, r.emb x = y := r.exists_idx_of_mem hy
      rw [View.read_writes_cons_emb]
      exact (r.overlay_emb _ w x).symm
    · have hy' : y ∉ Finset.univ.map r.emb := by rwa [Rect.map_emb_univ]
      rw [View.writes_cons, View.read_slice_write_of_not_mem r _ _ _ hy', read_writes_overs v f L]
      exact (r.overlay_of_not_mem _ w hy).symm

/-- Where some piece lies, what was there before does not matter. -/
theorem overs_eq_canon {S : Shape} {e : EltTy} (g : S.Idx → Elt F e) (y : S.Idx) :
    ∀ L : List (View.Piece (Elt F) S e), (∃ p ∈ L, y ∈ p.1.set) → overs L g y = View.canon L y
  | [], h => by obtain ⟨_, hm, _⟩ := h; exact absurd hm List.not_mem_nil
  | ⟨r, w⟩ :: L, h => by
    by_cases hy : y ∈ r.set
    · obtain ⟨x, rfl⟩ : ∃ x, r.emb x = y := r.exists_idx_of_mem hy
      rw [View.canon_cons_emb]
      exact r.overlay_emb _ w x
    · rw [View.canon_cons_of_not_mem _ L hy, ← overs_eq_canon g y L]
      · exact r.overlay_of_not_mem _ w hy
      · obtain ⟨p, hm, hp⟩ := h
        rcases List.mem_cons.mp hm with rfl | hm
        · exact absurd hp hy
        · exact ⟨p, hm, hp⟩

/-- Where no piece lies nothing changes. -/
theorem overs_of_not_mem {S : Shape} {e : EltTy} (g : S.Idx → Elt F e) (y : S.Idx) :
    ∀ L : List (View.Piece (Elt F) S e), (∀ p ∈ L, y ∉ p.1.set) → overs L g y = g y
  | [], _ => rfl
  | ⟨r, w⟩ :: L, h => (r.overlay_of_not_mem _ w (h _ List.mem_cons_self)).trans
      (overs_of_not_mem g y L fun p hp => h p (List.mem_cons_of_mem _ hp))

/-- Columns 0 to 255 of a weight block: what the body computes of them, handed to `k` — the scale column, the
    running sum of squares, and the last pieces of the contraction. -/
def chunk0 (w : Vec F S1024x3072 .fp8e4m3) (ws : Vec F S1x1024 .f32) (a : Vec F S32x3072 .bf16) (b : Vec F S1024x32 .bf16) {α : Type}
    (k : Vec F S256x32 .bf16 → FVec F S256x128 .f32 → FVec F S256x128 .f32 → Vec F S32x512 .bf16 → Vec F S256x512 .fp8e4m3 → α) : α :=
  let bq := View.ld b (Rect.unit (s := S1024x32) ![0, 0] S256x32.size inb_S1024x32_S256x32_0_0)
  let sq := View.ld ws (Rect.unit (s := S1x1024) ![0, 0] S1x256.size inb_S1x1024_S1x256_0_0)
  let a0 := View.ld a (Rect.unit (s := S32x3072) ![0, 0] S32x512.size inb_S32x3072_S32x512_0_0)
  let w0 := View.ld w (Rect.unit (s := S1024x3072) ![0, 0] S256x512.size inb_S1024x3072_S256x512_0_0)
  let a1 := View.ld a (Rect.unit (s := S32x3072) ![0, 512] S32x512.size inb_S32x3072_S32x512_0_512)
  let w1 := View.ld w (Rect.unit (s := S1024x3072) ![0, 512] S256x512.size inb_S1024x3072_S256x512_0_512)
  let a2 := View.ld a (Rect.unit (s := S32x3072) ![0, 1024] S32x512.size inb_S32x3072_S32x512_0_1024)
  let w2 := View.ld w (Rect.unit (s := S1024x3072) ![0, 1024] S256x512.size inb_S1024x3072_S256x512_0_1024)
  let a3 := View.ld a (Rect.unit (s := S32x3072) ![0, 1536] S32x512.size inb_S32x3072_S32x512_0_1536)
  let w3 := View.ld w (Rect.unit (s := S1024x3072) ![0, 1536] S256x512.size inb_S1024x3072_S256x512_0_1536)
  let a4 := View.ld a (Rect.unit (s := S32x3072) ![0, 2048] S32x512.size inb_S32x3072_S32x512_0_2048)
  let w4 := View.ld w (Rect.unit (s := S1024x3072) ![0, 2048] S256x512.size inb_S1024x3072_S256x512_0_2048)
  let a5 := View.ld a (Rect.unit (s := S32x3072) ![0, 2560] S32x512.size inb_S32x3072_S32x512_0_2560)
  let w5 := View.ld w (Rect.unit (s := S1024x3072) ![0, 2560] S256x512.size inb_S1024x3072_S256x512_0_2560)
  let v56 := k0_pay13 sq
  let v140 := k0_pay17 bq v56 (k0_pay14 bq a1) (k0_pay15 w1) (k0_pay16 bq sq a0 w0 a1 w1) a2 w2
  let v196 := k0_pay20 bq v56 v140 (k0_pay18 bq a3) (k0_pay19 w3) a4 w4
  k bq v56 v196 a5 w5

/-- Columns 256 to 511 of a weight block: what the body computes of them, handed to `k` — the scale column, the
    running sum of squares, and the last pieces of the contraction. -/
def chunk1 (w : Vec F S1024x3072 .fp8e4m3) (ws : Vec F S1x1024 .f32) (a : Vec F S32x3072 .bf16) (b : Vec F S1024x32 .bf16) {α : Type}
    (k : FVec F S256x128 .f32 → FVec F S256x128 .f32 → FVec F S256x512 .f32 → FVec F S256x512 .f32 → FVec F S256x128 .f32 → α) : α :=
  let bq := View.ld b (Rect.unit (s := S1024x32) ![256, 0] S256x32.size inb_S1024x32_S256x32_256_0)
  let sq := View.ld ws (Rect.unit (s := S1x1024) ![0, 256] S1x256.size inb_S1x1024_S1x256_0_256)
  let a0 := View.ld a (Rect.unit (s := S32x3072) ![0, 0] S32x512.size inb_S32x3072_S32x512_0_0)
  let w0 := View.ld w (Rect.unit (s := S1024x3072) ![256, 0] S256x512.size inb_S1024x3072_S256x512_256_0)
  let a1 := View.ld a (Rect.unit (s := S32x3072) ![0, 512] S32x512.size inb_S32x3072_S32x512_0_512)
  let w1 := View.ld w (Rect.unit (s := S1024x3072) ![256, 512] S256x512.size inb_S1024x3072_S256x512_256_512)
  let a2 := View.ld a (Rect.unit (s := S32x3072) ![0, 1024] S32x512.size inb_S32x3072_S32x512_0_1024)
  let w2 := View.ld w (Rect.unit (s := S1024x3072) ![256, 1024] S256x512.size inb_S1024x3072_S256x512_256_1024)
  let a3 := View.ld a (Rect.unit (s := S32x3072) ![0, 1536] S32x512.size inb_S32x3072_S32x512_0_1536)
  let w3 := View.ld w (Rect.unit (s := S1024x3072) ![256, 1536] S256x512.size inb_S1024x3072_S256x512_256_1536)
  let a4 := View.ld a (Rect.unit (s := S32x3072) ![0, 2048] S32x512.size inb_S32x3072_S32x512_0_2048)
  let w4 := View.ld w (Rect.unit (s := S1024x3072) ![256, 2048] S256x512.size inb_S1024x3072_S256x512_256_2048)
  let a5 := View.ld a (Rect.unit (s := S32x3072) ![0, 2560] S32x512.size inb_S32x3072_S32x512_0_2560)
  let w5 := View.ld w (Rect.unit (s := S1024x3072) ![256, 2560] S256x512.size inb_S1024x3072_S256x512_256_2560)
  let v244 := k0_pay24 sq
  let v288 := k0_pay27 k0_pay23 bq sq a0 w0 a1 w1
  let v338 := k0_pay31 bq v244 (k0_pay25 bq a1) (k0_pay26 w1) v288 (k0_pay28 sq w1) a2 w2 a3 w3
  let v384 := k0_pay33 bq v244 (k0_pay29 bq a3) (k0_pay30 w3) v338 (k0_pay32 v244 w3) a4 w4
  k v244 v384 (k0_pay34 bq a5) (k0_pay35 w5) (k0_pay36 v244 w5)

/-- Columns 512 to 767 of a weight block: what the body computes of them, handed to `k` — the scale column, the
    running sum of squares, and the last pieces of the contraction. -/
def chunk2 (w : Vec F S1024x3072 .fp8e4m3) (ws : Vec F S1x1024 .f32) (a : Vec F S32x3072 .bf16) (b : Vec F S1024x32 .bf16) {α : Type}
    (k : FVec F S256x128 .f32 → FVec F S256x512 .f32 → FVec F S256x512 .f32 → FVec F S256x128 .f32 → FVec F S256x128 .f32 → α) : α :=
  let bq := View.ld b (Rect.unit (s := S1024x32) ![512, 0] S256x32.size inb_S1024x32_S256x32_512_0)
  let sq := View.ld ws (Rect.unit (s := S1x1024) ![0, 512] S1x256.size inb_S1x1024_S1x256_0_512)
  let a0 := View.ld a (Rect.unit (s := S32x3072) ![0, 0] S32x512.size inb_S32x3072_S32x512_0_0)
  let w0 := View.ld w (Rect.unit (s := S1024x3072) ![512, 0] S256x512.size inb_S1024x3072_S256x512_512_0)
  let a1 := View.ld a (Rect.unit (s := S32x3072) ![0, 512] S32x512.size inb_S32x3072_S32x512_0_512)
  let w1 := View.ld w (Rect.unit (s := S1024x3072) ![512, 512] S256x512.size inb_S1024x3072_S256x512_512_512)
  let a2 := View.ld a (Rect.unit (s := S32x3072) ![0, 1024] S32x512.size inb_S32x3072_S32x512_0_1024)
  let w2 := View.ld w (Rect.unit (s := S1024x3072) ![512, 1024] S256x512.size inb_S1024x3072_S256x512_512_1024)
  let a3 := View.ld a (Rect.unit (s := S32x3072) ![0, 1536] S32x512.size inb_S32x3072_S32x512_0_1536)
  let w3 := View.ld w (Rect.unit (s := S1024x3072) ![512, 1536] S256x512.size inb_S1024x3072_S256x512_512_1536)
  let a4 := View.ld a (Rect.unit (s := S32x3072) ![0, 2048] S32x512.size inb_S32x3072_S32x512_0_2048)
  let w4 := View.ld w (Rect.unit (s := S1024x3072) ![512, 2048] S256x512.size inb_S1024x3072_S256x512_512_2048)
  let a5 := View.ld a (Rect.unit (s := S32x3072) ![0, 2560] S32x512.size inb_S32x3072_S32x512_0_2560)
  let w5 := View.ld w (Rect.unit (s := S1024x3072) ![512, 2560] S256x512.size inb_S1024x3072_S256x512_512_2560)
  let v432 := k0_pay40 sq
  let v482 := k0_pay43 k0_pay39 bq v432 a0 (constant S256x512 .f32 0x00000000#32) w0 a1 w1
  let v532 := k0_pay47 bq v432 v482 (k0_pay44 bq v432 a1 w1) a2 w2 a3 w3
  let v582 := k0_pay51 bq v432 (k0_pay45 bq a3) (k0_pay46 w3) v532 (k0_pay48 bq v432 a3 w3) a4 w4 a5 w5
  k v432 (k0_pay49 bq a5) (k0_pay50 w5) v582 (k0_pay52 bq v432 a5 w5)

/-- Columns 768 to 1023 of a weight block: what the body computes of them, handed to `k` — the scale column, the
    running sum of squares, and the last pieces of the contraction. -/
def chunk3 (w : Vec F S1024x3072 .fp8e4m3) (ws : Vec F S1x1024 .f32) (a : Vec F S32x3072 .bf16) (b : Vec F S1024x32 .bf16) {α : Type}
    (k : FVec F S256x128 .f32 → FVec F S256x512 .f32 → FVec F S256x512 .f32 → FVec F S256x128 .f32 → α) : α :=
  let bq := View.ld b (Rect.unit (s := S1024x32) ![768, 0] S256x32.size inb_S1024x32_S256x32_768_0)
  let sq := View.ld ws (Rect.unit (s := S1x1024) ![0, 768] S1x256.size inb_S1x1024_S1x256_0_768)
  let a0 := View.ld a (Rect.unit (s := S32x3072) ![0, 0] S32x512.size inb_S32x3072_S32x512_0_0)
  let w0 := View.ld w (Rect.unit (s := S1024x3072) ![768, 0] S256x512.size inb_S1024x3072_S256x512_768_0)
  let a1 := View.ld a (Rect.unit (s := S32x3072) ![0, 512] S32x512.size inb_S32x3072_S32x512_0_512)
  let w1 := View.ld w (Rect.unit (s := S1024x3072) ![768, 512] S256x512.size inb_S1024x3072_S256x512_768_512)
  let a2 := View.ld a (Rect.unit (s := S32x3072) ![0, 1024] S32x512.size inb_S32x3072_S32x512_0_1024)
  let w2 := View.ld w (Rect.unit (s := S1024x3072) ![768, 1024] S256x512.size inb_S1024x3072_S256x512_768_1024)
  let a3 := View.ld a (Rect.unit (s := S32x3072) ![0, 1536] S32x512.size inb_S32x3072_S32x512_0_1536)
  let w3 := View.ld w (Rect.unit (s := S1024x3072) ![768, 1536] S256x512.size inb_S1024x3072_S256x512_768_1536)
  let a4 := View.ld a (Rect.unit (s := S32x3072) ![0, 2048] S32x512.size inb_S32x3072_S32x512_0_2048)
  let w4 := View.ld w (Rect.unit (s := S1024x3072) ![768, 2048] S256x512.size inb_S1024x3072_S256x512_768_2048)
  let a5 := View.ld a (Rect.unit (s := S32x3072) ![0, 2560] S32x512.size inb_S32x3072_S32x512_0_2560)
  let w5 := View.ld w (Rect.unit (s := S1024x3072) ![768, 2560] S256x512.size inb_S1024x3072_S256x512_768_2560)
  let v620 := k0_pay56 sq
  let v676 := k0_pay61 k0_pay55 bq v620 (k0_pay57 bq a0) (k0_pay58 w0) (k0_pay59 sq w0) (k0_pay60 bq a0) a1 w1
  let v732 := k0_pay63 bq v620 v676 (k0_pay62 bq a2) w2 a3 w3
  let v782 := k0_pay66 bq v620 v732 a4 w4 a5 w5
  k v620 (k0_pay64 bq a5) (k0_pay65 w5) v782

/-- The row of norms of a weight block. -/
def normRow (w : Vec F S1024x3072 .fp8e4m3) (ws : Vec F S1x1024 .f32) (a : Vec F S32x3072 .bf16) (b : Vec F S1024x32 .bf16) : Vec F S1x1024 .f32 :=
  View.canon [⟨(Rect.unit (s := S1x1024) ![0, 768] S1x256.size inb_S1x1024_S1x256_0_768), chunk3 w ws a b k0_pay68⟩,
    ⟨(Rect.unit (s := S1x1024) ![0, 512] S1x256.size inb_S1x1024_S1x256_0_512), chunk2 w ws a b k0_pay53⟩,
    ⟨(Rect.unit (s := S1x1024) ![0, 256] S1x256.size inb_S1x1024_S1x256_0_256), chunk1 w ws a b k0_pay37⟩,
    ⟨(Rect.unit (s := S1x1024) ![0, 0] S1x256.size inb_S1x1024_S1x256_0_0), chunk0 w ws a b k0_pay21⟩]

/-- The gains of a weight block, as the four pieces the body stores them in: the grid point's row of the gain buffer. -/
def gainPieces (i : grid0.Coords) (h : k0_cond2 i = 1#1) (w : Vec F S1024x3072 .fp8e4m3) (ws : Vec F S1x1024 .f32) (a : Vec F S32x3072 .bf16) (b : Vec F S1024x32 .bf16) (mg : Vec F S1x1024 .f32) :
    List (View.Piece (Elt F) S8x1x1024 .f32) :=
  [⟨Rect.unit (s := S8x1x1024) (k0_off4 i) S1x1x256.size (k0_off4_inb i h),
      chunk3 w ws a b fun v0 v1 v2 v3 => k0_pay69 v0 v1 v2 v3 (View.ld mg (Rect.unit (s := S1x1024) ![0, 768] S1x256.size inb_S1x1024_S1x256_0_768))⟩,
    ⟨Rect.unit (s := S8x1x1024) (k0_off3 i) S1x1x256.size (k0_off3_inb i h),
      chunk2 w ws a b fun v0 v1 v2 v3 v4 => k0_pay54 v0 v1 v2 v3 v4 (View.ld mg (Rect.unit (s := S1x1024) ![0, 512] S1x256.size inb_S1x1024_S1x256_0_512))⟩,
    ⟨Rect.unit (s := S8x1x1024) (k0_off2 i) S1x1x256.size (k0_off2_inb i h),
      chunk1 w ws a b fun v0 v1 v2 v3 v4 => k0_pay38 v0 v1 v2 v3 v4 (View.ld mg (Rect.unit (s := S1x1024) ![0, 256] S1x256.size inb_S1x1024_S1x256_0_256))⟩,
    ⟨Rect.unit (s := S8x1x1024) (k0_off1 i) S1x1x256.size (k0_off1_inb i h),
      chunk0 w ws a b fun v0 v1 v2 v3 v4 => k0_pay22 v0 v1 v2 v3 v4 (View.ld mg (Rect.unit (s := S1x1024) ![0, 0] S1x256.size inb_S1x1024_S1x256_0_0))⟩]

/-- The gain buffer `g` with the grid point's row overwritten by the gains of the weight block. -/
def gainNew (i : grid0.Coords) (h : k0_cond2 i = 1#1) (w : Vec F S1024x3072 .fp8e4m3) (ws : Vec F S1x1024 .f32) (a : Vec F S32x3072 .bf16) (b : Vec F S1024x32 .bf16) (mg : Vec F S1x1024 .f32)
    (g : Vec F S8x1x1024 .f32) : Vec F S8x1x1024 .f32 :=
  overs (gainPieces i h w ws a b mg) g

/-- The codes of a block of activations; -/
def codesOf (x : Vec F S1024x3072 .bf16) : Vec F S1024x3072 .fp8e4m3 :=
  k0_pay10 (k0_pay2 (View.ld x (Rect.unit (s := S1024x3072) ![0, 0] S1024x3072.size inb_S1024x3072_S1024x3072_0_0))) (k0_pay9 (k0_pay3 (View.ld x (Rect.unit (s := S1024x3072) ![0, 0] S1024x3072.size inb_S1024x3072_S1024x3072_0_0))) (k0_pay4 (View.ld x (Rect.unit (s := S1024x3072) ![0, 0] S1024x3072.size inb_S1024x3072_S1024x3072_0_0))) (k0_pay5 (View.ld x (Rect.unit (s := S1024x3072) ![0, 0] S1024x3072.size inb_S1024x3072_S1024x3072_0_0))) (k0_pay6 (View.ld x (Rect.unit (s := S1024x3072) ![0, 0] S1024x3072.size inb_S1024x3072_S1024x3072_0_0))))
/-- their scales, a column copied across the lanes; -/
def scaleCol (x : Vec F S1024x3072 .bf16) : Vec F S1024x128 .f32 :=
  k0_pay11 (k0_pay8 (k0_pay3 (View.ld x (Rect.unit (s := S1024x3072) ![0, 0] S1024x3072.size inb_S1024x3072_S1024x3072_0_0))) (k0_pay4 (View.ld x (Rect.unit (s := S1024x3072) ![0, 0] S1024x3072.size inb_S1024x3072_S1024x3072_0_0))) (k0_pay5 (View.ld x (Rect.unit (s := S1024x3072) ![0, 0] S1024x3072.size inb_S1024x3072_S1024x3072_0_0))) (k0_pay6 (View.ld x (Rect.unit (s := S1024x3072) ![0, 0] S1024x3072.size inb_S1024x3072_S1024x3072_0_0))))
/-- and as a row. -/
def scaleRow (x : Vec F S1024x3072 .bf16) : Vec F S1x1x1024 .f32 :=
  k0_pay12 (k0_pay8 (k0_pay3 (View.ld x (Rect.unit (s := S1024x3072) ![0, 0] S1024x3072.size inb_S1024x3072_S1024x3072_0_0))) (k0_pay4 (View.ld x (Rect.unit (s := S1024x3072) ![0, 0] S1024x3072.size inb_S1024x3072_S1024x3072_0_0))) (k0_pay5 (View.ld x (Rect.unit (s := S1024x3072) ![0, 0] S1024x3072.size inb_S1024x3072_S1024x3072_0_0))) (k0_pay6 (View.ld x (Rect.unit (s := S1024x3072) ![0, 0] S1024x3072.size inb_S1024x3072_S1024x3072_0_0))))
/-- The activations down-projected through the adapter. -/
def downOf (x : Vec F S1024x3072 .bf16) (a : Vec F S32x3072 .bf16) : Vec F S1024x32 .bf16 := k0_pay67 (k0_pay2 (View.ld x (Rect.unit (s := S1024x3072) ![0, 0] S1024x3072.size inb_S1024x3072_S1024x3072_0_0))) (View.ld a (Rect.unit (s := S32x3072) ![0, 0] S32x3072.size inb_S32x3072_S32x3072_0_0))

/-- The block of results, of the codes, the weight block, and the gain buffer. -/
def yBlk (i : grid0.Coords) (q : Vec F S1024x3072 .fp8e4m3) (w : Vec F S1024x3072 .fp8e4m3) (ws : Vec F S1x1024 .f32)
    (b : Vec F S1024x32 .bf16) (s : Vec F S1024x128 .f32) (t : Vec F S1024x32 .bf16) (g : Vec F S8x1x1024 .f32) :
    Vec F S1024x1024 .bf16 :=
  View.canon [⟨(Rect.unit (s := S1024x1024) ![0, 512] S1024x512.size inb_S1024x1024_S1024x512_0_512), k0_pay1 (k0_pay71 (View.ld q (Rect.unit (s := S1024x3072) ![0, 0] S1024x3072.size inb_S1024x3072_S1024x3072_0_0))) (View.ld w (Rect.unit (s := S1024x3072) ![512, 0] S512x3072.size inb_S1024x3072_S512x3072_512_0)) (View.ld t (Rect.unit (s := S1024x32) ![0, 0] S1024x32.size inb_S1024x32_S1024x32_0_0)) (View.ld b (Rect.unit (s := S1024x32) ![512, 0] S512x32.size inb_S1024x32_S512x32_512_0)) (View.ld s (Rect.unit (s := S1024x128) ![0, 0] S1024x128.size inb_S1024x128_S1024x128_0_0)) (View.ld ws (Rect.unit (s := S1x1024) ![0, 512] S1x512.size inb_S1x1024_S1x512_0_512)) (View.ld g (Rect.unit (s := S8x1x1024) (k0_off6 i) S1x1x512.size (k0_off6_inb i)))⟩,
    ⟨(Rect.unit (s := S1024x1024) ![0, 0] S1024x512.size inb_S1024x1024_S1024x512_0_0), k0_pay70 (View.ld q (Rect.unit (s := S1024x3072) ![0, 0] S1024x3072.size inb_S1024x3072_S1024x3072_0_0)) (View.ld w (Rect.unit (s := S1024x3072) ![0, 0] S512x3072.size inb_S1024x3072_S512x3072_0_0)) (View.ld t (Rect.unit (s := S1024x32) ![0, 0] S1024x32.size inb_S1024x32_S1024x32_0_0)) (View.ld b (Rect.unit (s := S1024x32) ![0, 0] S512x32.size inb_S1024x32_S512x32_0_0)) (View.ld s (Rect.unit (s := S1024x128) ![0, 0] S1024x128.size inb_S1024x128_S1024x128_0_0)) (View.ld ws (Rect.unit (s := S1x1024) ![0, 0] S1x512.size inb_S1x1024_S1x512_0_0)) (View.ld g (Rect.unit (s := S8x1x1024) (k0_off5 i) S1x1x512.size (k0_off5_inb i)))⟩]

theorem row_word (i : grid0.Coords) : (BitVec.ofNat 32 (i 1).val).toNat = (i 1).val := by
  have h : (i 1).val < 8 := (i 1).isLt
  rw [BitVec.toNat_ofNat]; omega
theorem off1_eq (i : grid0.Coords) : k0_off1 i = ![(i 1).val, 0, 0] := by
  show ![(BitVec.ofNat 32 (i 1).val).toNat, 0, 0] = _; rw [row_word]
theorem off2_eq (i : grid0.Coords) : k0_off2 i = ![(i 1).val, 0, 256] := by
  show ![(BitVec.ofNat 32 (i 1).val).toNat, 0, 256] = _; rw [row_word]
theorem off3_eq (i : grid0.Coords) : k0_off3 i = ![(i 1).val, 0, 512] := by
  show ![(BitVec.ofNat 32 (i 1).val).toNat, 0, 512] = _; rw [row_word]
theorem off4_eq (i : grid0.Coords) : k0_off4 i = ![(i 1).val, 0, 768] := by
  show ![(BitVec.ofNat 32 (i 1).val).toNat, 0, 768] = _; rw [row_word]
theorem off5_eq (i : grid0.Coords) : k0_off5 i = ![(i 1).val, 0, 0] := by
  show ![(BitVec.ofNat 32 (i 1).val).toNat, 0, 0] = _; rw [row_word]
theorem off6_eq (i : grid0.Coords) : k0_off6 i = ![(i 1).val, 0, 512] := by
  show ![(BitVec.ofNat 32 (i 1).val).toNat, 0, 512] = _; rw [row_word]

/-- The grid point's row of the gain buffer is covered by the four pieces. -/
theorem gainPieces_cover (i : grid0.Coords) (h : k0_cond2 i = 1#1) (w : Vec F S1024x3072 .fp8e4m3) (ws : Vec F S1x1024 .f32) (a : Vec F S32x3072 .bf16) (b : Vec F S1024x32 .bf16) (mg : Vec F S1x1024 .f32)
    (y : S8x1x1024.Idx) (hy : (y 0).val = (i 1).val) : ∃ p ∈ gainPieces i h w ws a b mg, y ∈ p.1.set := by
  have h1 : (y 1).val < 1 := (y 1).isLt
  have h2 : (y 2).val < 1024 := (y 2).isLt
  unfold gainPieces
  rcases (by omega : 768 ≤ (y 2).val ∨ (512 ≤ (y 2).val ∧ (y 2).val < 768) ∨ (256 ≤ (y 2).val ∧ (y 2).val < 512) ∨ (y 2).val < 256) with h' | h' | h' | h'
  · refine ⟨_, List.mem_cons_self, (Rect.mem_set_unit (s := S8x1x1024) (off := k0_off4 i) (size := S1x1x256.size) (inb := k0_off4_inb i h)).mpr ?_⟩
    rw [off4_eq]; intro c; fin_cases c <;> simp <;> omega
  · refine ⟨_, List.mem_cons_of_mem _ List.mem_cons_self, (Rect.mem_set_unit (s := S8x1x1024) (off := k0_off3 i) (size := S1x1x256.size) (inb := k0_off3_inb i h)).mpr ?_⟩
    rw [off3_eq]; intro c; fin_cases c <;> simp <;> omega
  · refine ⟨_, List.mem_cons_of_mem _ (List.mem_cons_of_mem _ List.mem_cons_self), (Rect.mem_set_unit (s := S8x1x1024) (off := k0_off2 i) (size := S1x1x256.size) (inb := k0_off2_inb i h)).mpr ?_⟩
    rw [off2_eq]; intro c; fin_cases c <;> simp <;> omega
  · refine ⟨_, List.mem_cons_of_mem _ (List.mem_cons_of_mem _ (List.mem_cons_of_mem _ List.mem_cons_self)), (Rect.mem_set_unit (s := S8x1x1024) (off := k0_off1 i) (size := S1x1x256.size) (inb := k0_off1_inb i h)).mpr ?_⟩
    rw [off1_eq]; intro c; fin_cases c <;> simp <;> omega

theorem row5 (i : grid0.Coords) (y : S1x1x512.Idx) :
    ((Rect.unit (s := S8x1x1024) (k0_off5 i) S1x1x512.size (k0_off5_inb i)).toLoadRect.idx y 0).val = (i 1).val := by
  have h : (y 0).val < 1 := (y 0).isLt
  show k0_off5 i 0 + 1 * (y 0).val = _
  rw [off5_eq]; show (i 1).val + 1 * (y 0).val = _; omega
theorem row6 (i : grid0.Coords) (y : S1x1x512.Idx) :
    ((Rect.unit (s := S8x1x1024) (k0_off6 i) S1x1x512.size (k0_off6_inb i)).toLoadRect.idx y 0).val = (i 1).val := by
  have h : (y 0).val < 1 := (y 0).isLt
  show k0_off6 i 0 + 1 * (y 0).val = _
  rw [off6_eq]; show (i 1).val + 1 * (y 0).val = _; omega

/-- The four pieces lie in the grid point's row. -/
theorem gainPieces_row (i : grid0.Coords) (h : k0_cond2 i = 1#1) (w : Vec F S1024x3072 .fp8e4m3) (ws : Vec F S1x1024 .f32) (a : Vec F S32x3072 .bf16) (b : Vec F S1024x32 .bf16) (mg : Vec F S1x1024 .f32)
    (p : View.Piece (Elt F) S8x1x1024 .f32) (hp : p ∈ gainPieces i h w ws a b mg) (y : S8x1x1024.Idx) (hy : y ∈ p.1.set) :
    (y 0).val = (i 1).val := by
  unfold gainPieces at hp
  simp only [List.mem_cons, List.not_mem_nil, or_false] at hp
  rcases hp with rfl | rfl | rfl | rfl
  · have := (Rect.mem_set_unit (s := S8x1x1024) (off := k0_off4 i) (size := S1x1x256.size) (inb := k0_off4_inb i h)).mp hy 0
    rw [off4_eq] at this; simp at this; omega
  · have := (Rect.mem_set_unit (s := S8x1x1024) (off := k0_off3 i) (size := S1x1x256.size) (inb := k0_off3_inb i h)).mp hy 0
    rw [off3_eq] at this; simp at this; omega
  · have := (Rect.mem_set_unit (s := S8x1x1024) (off := k0_off2 i) (size := S1x1x256.size) (inb := k0_off2_inb i h)).mp hy 0
    rw [off2_eq] at this; simp at this; omega
  · have := (Rect.mem_set_unit (s := S8x1x1024) (off := k0_off1 i) (size := S1x1x256.size) (inb := k0_off1_inb i h)).mp hy 0
    rw [off1_eq] at this; simp at this; omega

end Cert.KernelIdeal.Gen

end
-- ==== Proof.RunD.lean ====
module

public import proofs.«01_k».proof.Proof.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- A visit that neither quantises nor computes norms: the results' block from what is held. -/
theorem runD (c : Dev nD) (i : grid0.Coords) (arg2 : Memref sig .tc .vmem S1024x3072 .bf16) (harg2 : arg2.IsWhole) (arg3 : Memref sig .tc .vmem S1024x3072 .fp8e4m3) (harg3 : arg3.IsWhole) (arg4 : Memref sig .tc .vmem S1x1024 .f32) (harg4 : arg4.IsWhole) (arg5 : Memref sig .tc .vmem S32x3072 .bf16) (harg5 : arg5.IsWhole) (arg6 : Memref sig .tc .vmem S1024x32 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x3072 .fp8e4m3) (harg10 : arg10.IsWhole) (arg11 : Memref sig .tc .vmem S1x1x1024 .f32) (harg11 : arg11.IsWhole) (arg12 : Memref sig .tc .vmem S1024x128 .f32) (harg12 : arg12.IsWhole) (arg13 : Memref sig .tc .vmem S1024x32 .bf16) (harg13 : arg13.IsWhole) (arg14 : Memref sig .tc .vmem S8x1x1024 .f32) (harg14 : arg14.IsWhole)
    (hc0 : ¬k0_cond1 i = 1#1) (hc1 : ¬k0_cond2 i = 1#1)
    (x : Vec F S1024x3072 .bf16) (w : Vec F S1024x3072 .fp8e4m3) (ws : Vec F S1x1024 .f32) (a : Vec F S32x3072 .bf16)
    (b : Vec F S1024x32 .bf16) (mg : Vec F S1x1024 .f32) (g : Vec F S8x1x1024 .f32) (nr : Vec F S1x1024 .f32) (q : Vec F S1024x3072 .fp8e4m3) (sr : Vec F S1x1x1024 .f32) (sc : Vec F S1024x128 .f32) (tt : Vec F S1024x32 .bf16) (E : Set ℕ) (K : PUnit → sProp 𝕄) :
    iprop(owns (c : Thread nD τ) arg2 fullShare x ∗ owns (c : Thread nD τ) arg3 fullShare w ∗ owns (c : Thread nD τ) arg4 fullShare ws ∗ owns (c : Thread nD τ) arg5 fullShare a ∗ owns (c : Thread nD τ) arg6 fullShare b ∗ owns (c : Thread nD τ) arg7 fullShare mg ∗ (∃ d, owns (c : Thread nD τ) arg8 fullShare d) ∗ owns (c : Thread nD τ) arg9 fullShare nr ∗ owns (c : Thread nD τ) arg10 fullShare q ∗ owns (c : Thread nD τ) arg11 fullShare sr ∗ owns (c : Thread nD τ) arg12 fullShare sc ∗ owns (c : Thread nD τ) arg13 fullShare tt ∗ owns (c : Thread nD τ) arg14 fullShare g
        ∗ (iprop(owns (c : Thread nD τ) arg2 fullShare x ∗ owns (c : Thread nD τ) arg3 fullShare w ∗ owns (c : Thread nD τ) arg4 fullShare ws ∗ owns (c : Thread nD τ) arg5 fullShare a ∗ owns (c : Thread nD τ) arg6 fullShare b ∗ owns (c : Thread nD τ) arg7 fullShare mg ∗ owns (c : Thread nD τ) arg8 fullShare (yBlk i q w ws b sc tt g) ∗ owns (c : Thread nD τ) arg9 fullShare nr ∗ owns (c : Thread nD τ) arg10 fullShare q ∗ owns (c : Thread nD τ) arg11 fullShare sr ∗ owns (c : Thread nD τ) arg12 fullShare sc ∗ owns (c : Thread nD τ) arg13 fullShare tt ∗ owns (c : Thread nD τ) arg14 fullShare g) -∗ K ⟨⟩))
      ⊢ wp frame (wpE (defs₀ (F := F)) Variants.none c none) E (cc0_dora_fp8 i arg2 harg2 arg3 harg3 arg4 harg4 arg5 harg5 arg6 harg6 arg7 harg7 arg8 harg8 arg9 harg9 arg10 harg10 arg11 harg11 arg12 harg12 arg13 harg13 arg14 harg14) K := by
  simp only [cc0_dora_fp8_eq_skeleton]; unfold cc0_dora_fp8_skel
  simp only [k0_part19_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%f9, %e9, H9⟩, ⟨%f10, %e10, H10⟩, ⟨%f11, %e11, H11⟩, ⟨%f12, %e12, H12⟩, ⟨%f13, %e13, H13⟩, ⟨%f14, %e14, H14⟩, Hk⟩
  subst e2 e3 e4 e5 e6 e7 e9 e10 e11 e12 e13 e14
  sl_exec (disch := first | sl_exact hc0 | sl_exact hc1)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro
    rw [View.read_writes_eq_canon _ _ _ (View.cover_of_tiledL _ ![1024, 512] (by sl_kernel_rfl))]
    rfl
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  iexists _; isplitr; · ipureintro; rfl
  iexact H14

end Cert.KernelIdeal.Gen

end
-- ==== Proof.RunC.lean ====
module

public import proofs.«01_k».proof.Proof.RunD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A visit that quantises a block of activations. -/
theorem runC (c : Dev nD) (i : grid0.Coords) (arg2 : Memref sig .tc .vmem S1024x3072 .bf16) (harg2 : arg2.IsWhole) (arg3 : Memref sig .tc .vmem S1024x3072 .fp8e4m3) (harg3 : arg3.IsWhole) (arg4 : Memref sig .tc .vmem S1x1024 .f32) (harg4 : arg4.IsWhole) (arg5 : Memref sig .tc .vmem S32x3072 .bf16) (harg5 : arg5.IsWhole) (arg6 : Memref sig .tc .vmem S1024x32 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x3072 .fp8e4m3) (harg10 : arg10.IsWhole) (arg11 : Memref sig .tc .vmem S1x1x1024 .f32) (harg11 : arg11.IsWhole) (arg12 : Memref sig .tc .vmem S1024x128 .f32) (harg12 : arg12.IsWhole) (arg13 : Memref sig .tc .vmem S1024x32 .bf16) (harg13 : arg13.IsWhole) (arg14 : Memref sig .tc .vmem S8x1x1024 .f32) (harg14 : arg14.IsWhole)
    (hc0 : k0_cond1 i = 1#1) (hc1 : ¬k0_cond2 i = 1#1)
    (x : Vec F S1024x3072 .bf16) (w : Vec F S1024x3072 .fp8e4m3) (ws : Vec F S1x1024 .f32) (a : Vec F S32x3072 .bf16)
    (b : Vec F S1024x32 .bf16) (mg : Vec F S1x1024 .f32) (g : Vec F S8x1x1024 .f32) (nr : Vec F S1x1024 .f32) (E : Set ℕ) (K : PUnit → sProp 𝕄) :
    iprop(owns (c : Thread nD τ) arg2 fullShare x ∗ owns (c : Thread nD τ) arg3 fullShare w ∗ owns (c : Thread nD τ) arg4 fullShare ws ∗ owns (c : Thread nD τ) arg5 fullShare a ∗ owns (c : Thread nD τ) arg6 fullShare b ∗ owns (c : Thread nD τ) arg7 fullShare mg ∗ (∃ d, owns (c : Thread nD τ) arg8 fullShare d) ∗ owns (c : Thread nD τ) arg9 fullShare nr ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare g
        ∗ (iprop(owns (c : Thread nD τ) arg2 fullShare x ∗ owns (c : Thread nD τ) arg3 fullShare w ∗ owns (c : Thread nD τ) arg4 fullShare ws ∗ owns (c : Thread nD τ) arg5 fullShare a ∗ owns (c : Thread nD τ) arg6 fullShare b ∗ owns (c : Thread nD τ) arg7 fullShare mg ∗ owns (c : Thread nD τ) arg8 fullShare (yBlk i (codesOf x) w ws b (scaleCol x) (downOf x a) g) ∗ owns (c : Thread nD τ) arg9 fullShare nr ∗ owns (c : Thread nD τ) arg10 fullShare (codesOf x) ∗ owns (c : Thread nD τ) arg11 fullShare (scaleRow x) ∗ owns (c : Thread nD τ) arg12 fullShare (scaleCol x) ∗ owns (c : Thread nD τ) arg13 fullShare (downOf x a) ∗ owns (c : Thread nD τ) arg14 fullShare g) -∗ K ⟨⟩))
      ⊢ wp frame (wpE (defs₀ (F := F)) Variants.none c none) E (cc0_dora_fp8 i arg2 harg2 arg3 harg3 arg4 harg4 arg5 harg5 arg6 harg6 arg7 harg7 arg8 harg8 arg9 harg9 arg10 harg10 arg11 harg11 arg12 harg12 arg13 harg13 arg14 harg14) K := by
  simp only [cc0_dora_fp8_eq_skeleton]; unfold cc0_dora_fp8_skel
  simp only [k0_part1_eq_skeleton, k0_part2_eq_skeleton, k0_part3_eq_skeleton, k0_part19_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%f9, %e9, H9⟩, ⟨%d10, %f10, -, H10⟩, ⟨%d11, %f11, -, H11⟩, ⟨%d12, %f12, -, H12⟩, ⟨%d13, %f13, -, H13⟩, ⟨%f14, %e14, H14⟩, Hk⟩
  subst e2 e3 e4 e5 e6 e7 e9 e14
  sl_exec (disch := first | sl_exact hc0 | sl_exact hc1)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro
    have e6 : runC.sl.v6 c arg2 arg10 f2 = codesOf (arg2.view.read (Elt F) f2) := View.readCov_cons_toLoadRect _ _ _ _
    have e7 : runC.sl.r_7 c arg2 arg10 f2 = k0_pay71 (codesOf (arg2.view.read (Elt F) f2)) := congrArg k0_pay71 (View.readCov_cons_toLoadRect _ _ _ _)
    have e10 : runC.sl.v10 c arg2 arg5 arg13 f2 f5 = downOf (arg2.view.read (Elt F) f2) (arg5.view.read (Elt F) f5) := View.readCov_cons_toLoadRect _ _ _ _
    have e32 : runC.sl.v32 c arg2 arg5 arg13 f2 f5 = downOf (arg2.view.read (Elt F) f2) (arg5.view.read (Elt F) f5) := View.readCov_cons_toLoadRect _ _ _ _
    have e13 : runC.sl.v13 c arg2 arg12 f2 = scaleCol (arg2.view.read (Elt F) f2) := View.readCov_cons_toLoadRect _ _ _ _
    have e35 : runC.sl.v35 c arg2 arg12 f2 = scaleCol (arg2.view.read (Elt F) f2) := View.readCov_cons_toLoadRect _ _ _ _
    rw [View.read_writes_eq_canon _ _ _ (View.cover_of_tiledL _ ![1024, 512] (by sl_kernel_rfl)), e6, e7, e10, e32, e13, e35]
    unfold yBlk
    rw [ld_all inb_S1024x3072_S1024x3072_0_0, ld_all inb_S1024x32_S1024x32_0_0, ld_all inb_S1024x128_S1024x128_0_0]
    rfl
  isplitl [H9]
  · iexists _; isplitr; · ipureintro; rfl
    iexact H9
  isplitl [H10]
  · iexists _; isplitr; swap; · iexact H10
    ipureintro
    exact View.read_writes_full _ _ _ _ _
  isplitl [H11]
  · iexists _; isplitr; swap; · iexact H11
    ipureintro
    exact View.read_writes_full _ _ _ _ _
  isplitl [H12]
  · iexists _; isplitr; swap; · iexact H12
    ipureintro
    exact View.read_writes_full _ _ _ _ _
  isplitl [H13]
  · iexists _; isplitr; swap; · iexact H13
    ipureintro
    exact View.read_writes_full _ _ _ _ _
  iexists _; isplitr; · ipureintro; rfl
  iexact H14

end Cert.KernelIdeal.Gen

end
-- ==== Proof.RunB.lean ====
module

public import proofs.«01_k».proof.Proof.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A visit that computes the norms of a weight block. -/
theorem runB (c : Dev nD) (i : grid0.Coords) (arg2 : Memref sig .tc .vmem S1024x3072 .bf16) (harg2 : arg2.IsWhole) (arg3 : Memref sig .tc .vmem S1024x3072 .fp8e4m3) (harg3 : arg3.IsWhole) (arg4 : Memref sig .tc .vmem S1x1024 .f32) (harg4 : arg4.IsWhole) (arg5 : Memref sig .tc .vmem S32x3072 .bf16) (harg5 : arg5.IsWhole) (arg6 : Memref sig .tc .vmem S1024x32 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x3072 .fp8e4m3) (harg10 : arg10.IsWhole) (arg11 : Memref sig .tc .vmem S1x1x1024 .f32) (harg11 : arg11.IsWhole) (arg12 : Memref sig .tc .vmem S1024x128 .f32) (harg12 : arg12.IsWhole) (arg13 : Memref sig .tc .vmem S1024x32 .bf16) (harg13 : arg13.IsWhole) (arg14 : Memref sig .tc .vmem S8x1x1024 .f32) (harg14 : arg14.IsWhole)
    (hc0 : ¬k0_cond1 i = 1#1) (hc1 : k0_cond2 i = 1#1)
    (x : Vec F S1024x3072 .bf16) (w : Vec F S1024x3072 .fp8e4m3) (ws : Vec F S1x1024 .f32) (a : Vec F S32x3072 .bf16)
    (b : Vec F S1024x32 .bf16) (mg : Vec F S1x1024 .f32) (g : Vec F S8x1x1024 .f32) (q : Vec F S1024x3072 .fp8e4m3) (sr : Vec F S1x1x1024 .f32) (sc : Vec F S1024x128 .f32) (tt : Vec F S1024x32 .bf16) (E : Set ℕ) (K : PUnit → sProp 𝕄) :
    iprop(owns (c : Thread nD τ) arg2 fullShare x ∗ owns (c : Thread nD τ) arg3 fullShare w ∗ owns (c : Thread nD τ) arg4 fullShare ws ∗ owns (c : Thread nD τ) arg5 fullShare a ∗ owns (c : Thread nD τ) arg6 fullShare b ∗ owns (c : Thread nD τ) arg7 fullShare mg ∗ (∃ d, owns (c : Thread nD τ) arg8 fullShare d) ∗ (∃ d, owns (c : Thread nD τ) arg9 fullShare d) ∗ owns (c : Thread nD τ) arg10 fullShare q ∗ owns (c : Thread nD τ) arg11 fullShare sr ∗ owns (c : Thread nD τ) arg12 fullShare sc ∗ owns (c : Thread nD τ) arg13 fullShare tt ∗ owns (c : Thread nD τ) arg14 fullShare g
        ∗ (iprop(owns (c : Thread nD τ) arg2 fullShare x ∗ owns (c : Thread nD τ) arg3 fullShare w ∗ owns (c : Thread nD τ) arg4 fullShare ws ∗ owns (c : Thread nD τ) arg5 fullShare a ∗ owns (c : Thread nD τ) arg6 fullShare b ∗ owns (c : Thread nD τ) arg7 fullShare mg ∗ owns (c : Thread nD τ) arg8 fullShare (yBlk i q w ws b sc tt (gainNew i hc1 w ws a b mg g)) ∗ owns (c : Thread nD τ) arg9 fullShare (normRow w ws a b) ∗ owns (c : Thread nD τ) arg10 fullShare q ∗ owns (c : Thread nD τ) arg11 fullShare sr ∗ owns (c : Thread nD τ) arg12 fullShare sc ∗ owns (c : Thread nD τ) arg13 fullShare tt ∗ owns (c : Thread nD τ) arg14 fullShare (gainNew i hc1 w ws a b mg g)) -∗ K ⟨⟩))
      ⊢ wp frame (wpE (defs₀ (F := F)) Variants.none c none) E (cc0_dora_fp8 i arg2 harg2 arg3 harg3 arg4 harg4 arg5 harg5 arg6 harg6 arg7 harg7 arg8 harg8 arg9 harg9 arg10 harg10 arg11 harg11 arg12 harg12 arg13 harg13 arg14 harg14) K := by
  simp only [cc0_dora_fp8_eq_skeleton]; unfold cc0_dora_fp8_skel
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%f10, %e10, H10⟩, ⟨%f11, %e11, H11⟩, ⟨%f12, %e12, H12⟩, ⟨%f13, %e13, H13⟩, ⟨%f14, %e14, H14⟩, Hk⟩
  subst e2 e3 e4 e5 e6 e7 e10 e11 e12 e13 e14
  sl_exec (disch := first | sl_exact hc0 | sl_exact hc1)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro
    have e21 : runB.sl.v21 c i arg3 arg4 arg5 arg6 arg7 arg14 hc1 f3 f4 f5 f6 f7
        = View.ld (gainNew i hc1 (arg3.view.read (Elt F) f3) (arg4.view.read (Elt F) f4) (arg5.view.read (Elt F) f5) (arg6.view.read (Elt F) f6) (arg7.view.read (Elt F) f7) (arg14.view.read (Elt F) f14)) (Rect.unit (s := S8x1x1024) (k0_off5 i) S1x1x512.size (k0_off5_inb i)) :=
      (View.readCov_eq_canon' _ _ _).trans (funext fun y => (overs_eq_canon _ _ _ (gainPieces_cover i hc1 _ _ _ _ _ _ (row5 i y))).symm)
    have e43 : runB.sl.v43 c i arg3 arg4 arg5 arg6 arg7 arg14 hc1 f3 f4 f5 f6 f7
        = View.ld (gainNew i hc1 (arg3.view.read (Elt F) f3) (arg4.view.read (Elt F) f4) (arg5.view.read (Elt F) f5) (arg6.view.read (Elt F) f6) (arg7.view.read (Elt F) f7) (arg14.view.read (Elt F) f14)) (Rect.unit (s := S8x1x1024) (k0_off6 i) S1x1x512.size (k0_off6_inb i)) :=
      (View.readCov_eq_canon' _ _ _).trans (funext fun y => (overs_eq_canon _ _ _ (gainPieces_cover i hc1 _ _ _ _ _ _ (row6 i y))).symm)
    rw [View.read_writes_eq_canon _ _ _ (View.cover_of_tiledL _ ![1024, 512] (by sl_kernel_rfl)), e21, e43]
    rfl
  isplitl [H9]
  · iexists _; isplitr; swap; · iexact H9
    ipureintro
    rw [View.read_writes_eq_canon _ _ _ (View.cover_of_tiledL _ ![1, 256] (by sl_kernel_rfl))]
    rfl
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  iexists _; isplitr; swap; · iexact H14
  ipureintro
  exact read_writes_overs _ _ _

end Cert.KernelIdeal.Gen

end
-- ==== Proof.RunA.lean ====
module

public import proofs.«01_k».proof.Proof.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first visit: quantises a block of activations and computes the norms of a weight block. -/
theorem runA (c : Dev nD) (i : grid0.Coords) (arg2 : Memref sig .tc .vmem S1024x3072 .bf16) (harg2 : arg2.IsWhole) (arg3 : Memref sig .tc .vmem S1024x3072 .fp8e4m3) (harg3 : arg3.IsWhole) (arg4 : Memref sig .tc .vmem S1x1024 .f32) (harg4 : arg4.IsWhole) (arg5 : Memref sig .tc .vmem S32x3072 .bf16) (harg5 : arg5.IsWhole) (arg6 : Memref sig .tc .vmem S1024x32 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x3072 .fp8e4m3) (harg10 : arg10.IsWhole) (arg11 : Memref sig .tc .vmem S1x1x1024 .f32) (harg11 : arg11.IsWhole) (arg12 : Memref sig .tc .vmem S1024x128 .f32) (harg12 : arg12.IsWhole) (arg13 : Memref sig .tc .vmem S1024x32 .bf16) (harg13 : arg13.IsWhole) (arg14 : Memref sig .tc .vmem S8x1x1024 .f32) (harg14 : arg14.IsWhole)
    (hc0 : k0_cond1 i = 1#1) (hc1 : k0_cond2 i = 1#1)
    (x : Vec F S1024x3072 .bf16) (w : Vec F S1024x3072 .fp8e4m3) (ws : Vec F S1x1024 .f32) (a : Vec F S32x3072 .bf16)
    (b : Vec F S1024x32 .bf16) (mg : Vec F S1x1024 .f32) (g : Vec F S8x1x1024 .f32) (E : Set ℕ) (K : PUnit → sProp 𝕄) :
    iprop(owns (c : Thread nD τ) arg2 fullShare x ∗ owns (c : Thread nD τ) arg3 fullShare w ∗ owns (c : Thread nD τ) arg4 fullShare ws ∗ owns (c : Thread nD τ) arg5 fullShare a ∗ owns (c : Thread nD τ) arg6 fullShare b ∗ owns (c : Thread nD τ) arg7 fullShare mg ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare g
        ∗ (iprop(owns (c : Thread nD τ) arg2 fullShare x ∗ owns (c : Thread nD τ) arg3 fullShare w ∗ owns (c : Thread nD τ) arg4 fullShare ws ∗ owns (c : Thread nD τ) arg5 fullShare a ∗ owns (c : Thread nD τ) arg6 fullShare b ∗ owns (c : Thread nD τ) arg7 fullShare mg ∗ owns (c : Thread nD τ) arg8 fullShare (yBlk i (codesOf x) w ws b (scaleCol x) (downOf x a) (gainNew i hc1 w ws a b mg g)) ∗ owns (c : Thread nD τ) arg9 fullShare (normRow w ws a b) ∗ owns (c : Thread nD τ) arg10 fullShare (codesOf x) ∗ owns (c : Thread nD τ) arg11 fullShare (scaleRow x) ∗ owns (c : Thread nD τ) arg12 fullShare (scaleCol x) ∗ owns (c : Thread nD τ) arg13 fullShare (downOf x a) ∗ owns (c : Thread nD τ) arg14 fullShare (gainNew i hc1 w ws a b mg g)) -∗ K ⟨⟩))
      ⊢ wp frame (wpE (defs₀ (F := F)) Variants.none c none) E (cc0_dora_fp8 i arg2 harg2 arg3 harg3 arg4 harg4 arg5 harg5 arg6 harg6 arg7 harg7 arg8 harg8 arg9 harg9 arg10 harg10 arg11 harg11 arg12 harg12 arg13 harg13 arg14 harg14) K := by
  simp only [cc0_dora_fp8_eq_skeleton]; unfold cc0_dora_fp8_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %e14, H14⟩, Hk⟩
  subst e2 e3 e4 e5 e6 e7 e14
  sl_exec (disch := first | sl_exact hc0 | sl_exact hc1)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro
    have e21 : runA.sl.v21 c i arg3 arg4 arg5 arg6 arg7 arg14 hc1 f3 f4 f5 f6 f7
        = View.ld (gainNew i hc1 (arg3.view.read (Elt F) f3) (arg4.view.read (Elt F) f4) (arg5.view.read (Elt F) f5) (arg6.view.read (Elt F) f6) (arg7.view.read (Elt F) f7) (arg14.view.read (Elt F) f14)) (Rect.unit (s := S8x1x1024) (k0_off5 i) S1x1x512.size (k0_off5_inb i)) :=
      (View.readCov_eq_canon' _ _ _).trans (funext fun y => (overs_eq_canon _ _ _ (gainPieces_cover i hc1 _ _ _ _ _ _ (row5 i y))).symm)
    have e43 : runA.sl.v43 c i arg3 arg4 arg5 arg6 arg7 arg14 hc1 f3 f4 f5 f6 f7
        = View.ld (gainNew i hc1 (arg3.view.read (Elt F) f3) (arg4.view.read (Elt F) f4) (arg5.view.read (Elt F) f5) (arg6.view.read (Elt F) f6) (arg7.view.read (Elt F) f7) (arg14.view.read (Elt F) f14)) (Rect.unit (s := S8x1x1024) (k0_off6 i) S1x1x512.size (k0_off6_inb i)) :=
      (View.readCov_eq_canon' _ _ _).trans (funext fun y => (overs_eq_canon _ _ _ (gainPieces_cover i hc1 _ _ _ _ _ _ (row6 i y))).symm)
    have e6 : runA.sl.v6 c arg2 arg10 f2 = codesOf (arg2.view.read (Elt F) f2) := View.readCov_cons_toLoadRect _ _ _ _
    have e7 : runA.sl.r_57 c arg2 arg10 f2 = k0_pay71 (codesOf (arg2.view.read (Elt F) f2)) := congrArg k0_pay71 (View.readCov_cons_toLoadRect _ _ _ _)
    have e10 : runA.sl.v10 c arg2 arg5 arg13 f2 f5 = downOf (arg2.view.read (Elt F) f2) (arg5.view.read (Elt F) f5) := View.readCov_cons_toLoadRect _ _ _ _
    have e32 : runA.sl.v32 c arg2 arg5 arg13 f2 f5 = downOf (arg2.view.read (Elt F) f2) (arg5.view.read (Elt F) f5) := View.readCov_cons_toLoadRect _ _ _ _
    have e13 : runA.sl.v13 c arg2 arg12 f2 = scaleCol (arg2.view.read (Elt F) f2) := View.readCov_cons_toLoadRect _ _ _ _
    have e35 : runA.sl.v35 c arg2 arg12 f2 = scaleCol (arg2.view.read (Elt F) f2) := View.readCov_cons_toLoadRect _ _ _ _
    rw [View.read_writes_eq_canon _ _ _ (View.cover_of_tiledL _ ![1024, 512] (by sl_kernel_rfl)), e6, e7, e10, e32, e13, e35, e21, e43]
    unfold yBlk
    rw [ld_all inb_S1024x3072_S1024x3072_0_0, ld_all inb_S1024x32_S1024x32_0_0, ld_all inb_S1024x128_S1024x128_0_0]
    rfl
  isplitl [H9]
  · iexists _; isplitr; swap; · iexact H9
    ipureintro
    rw [View.read_writes_eq_canon _ _ _ (View.cover_of_tiledL _ ![1, 256] (by sl_kernel_rfl))]
    rfl
  isplitl [H10]
  · iexists _; isplitr; swap; · iexact H10
    ipureintro
    exact View.read_writes_full _ _ _ _ _
  isplitl [H11]
  · iexists _; isplitr; swap; · iexact H11
    ipureintro
    exact View.read_writes_full _ _ _ _ _
  isplitl [H12]
  · iexists _; isplitr; swap; · iexact H12
    ipureintro
    exact View.read_writes_full _ _ _ _ _
  isplitl [H13]
  · iexists _; isplitr; swap; · iexact H13
    ipureintro
    exact View.read_writes_full _ _ _ _ _
  iexists _; isplitr; swap; · iexact H14
  ipureintro
  exact read_writes_overs _ _ _

end Cert.KernelIdeal.Gen

end
-- ==== Proof.Held.lean ====
module

public import proofs.«01_k».proof.Proof.RunA
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What every buffer holds between the visits of the body

The body's visit number `t` of the 48 stands at block row `t / 8` of the activations and block `t % 8` of the weights. -/

/-! ## Which of the two branches a visit takes, and where outputs are left alone -/

theorem visits (t : Fin cfg0.N) : t.val < 48 := lt_of_lt_of_eq t.isLt (show cfg0.N = 48 from N_0)

/-- The body quantises exactly at the first visit of a block of activations; -/
theorem cond1_iff : ∀ t : Fin cfg0.N, k0_cond1 (grid0.coords t) = 1#1 ↔ t.val % 8 = 0 := by decide +kernel
/-- and computes norms exactly while it visits the first block of activations. -/
theorem cond2_iff : ∀ t : Fin cfg0.N, k0_cond2 (grid0.coords t) = 1#1 ↔ t.val < 8 := by decide +kernel
theorem col_val : ∀ t : Fin cfg0.N, ((grid0.coords t) 1).val = t.val % 8 := by decide +kernel

theorem idle7_iff : ∀ t : Fin cfg0.N, cfg0.idle 7 (grid0.coords t) = decide (8 ≤ t.val) := by decide +kernel
theorem idle8_iff : ∀ t : Fin cfg0.N, cfg0.idle 8 (grid0.coords t) = decide (t.val % 8 ≠ 0) := by decide +kernel
theorem idle9_iff : ∀ t : Fin cfg0.N, cfg0.idle 9 (grid0.coords t) = decide (t.val % 8 ≠ 0) := by decide +kernel

/-- Whether an output's buffer is fresh before a visit: nothing stored since the start or the last write-back. -/
def fresh7 (n : ℕ) : Bool := n ≤ 7 || n == 48
def fresh8 (n : ℕ) : Bool := n % 8 == 0
theorem fresh7_step : ∀ t : Fin cfg0.N,
    fresh7 (t.val + 1) = ((cfg0.win 7).flush t || (cfg0.idle 7 (cfg0.grid.coords t) && fresh7 t.val)) := by decide +kernel
theorem fresh8_step : ∀ t : Fin cfg0.N,
    fresh8 (t.val + 1) = ((cfg0.win 8).flush t || (cfg0.idle 8 (cfg0.grid.coords t) && fresh8 t.val)) := by decide +kernel
theorem fresh9_step : ∀ t : Fin cfg0.N,
    fresh8 (t.val + 1) = ((cfg0.win 9).flush t || (cfg0.idle 9 (cfg0.grid.coords t) && fresh8 t.val)) := by decide +kernel
theorem fresh7_eq (t : Fin cfg0.N) : cfg0.fresh 7 t.val = fresh7 t.val :=
  Pipeline.Cfg.fresh_tab cfg0 7 fresh7 rfl fresh7_step t.val (Nat.le_of_lt t.isLt)
theorem fresh8_eq (t : Fin cfg0.N) : cfg0.fresh 8 t.val = fresh8 t.val :=
  Pipeline.Cfg.fresh_tab cfg0 8 fresh8 rfl fresh8_step t.val (Nat.le_of_lt t.isLt)
theorem fresh9_eq (t : Fin cfg0.N) : cfg0.fresh 9 t.val = fresh8 t.val :=
  Pipeline.Cfg.fresh_tab cfg0 9 fresh8 rfl fresh9_step t.val (Nat.le_of_lt t.isLt)

/-! ## The buffers a visit is handed -/

abbrev ms0 (t : Fin cfg0.N) : Memref sig .tc .vmem S1024x3072 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3072 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x3072 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x32 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x3072 .fp8e4m3 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1x1024 .f32 := win0_9.stage (cfg0.slots t 9)
abbrev hs9 (t : Fin cfg0.N) : (ms9 t).IsWhole := hstage0_9 ((cfg0.slots t 9).cast nbuf0_9)
abbrev scr0 : Memref sig .tc .vmem S1024x128 .f32 := Memref.whole cc0_scratch0
abbrev scr1 : Memref sig .tc .vmem S1024x32 .bf16 := Memref.whole cc0_scratch1
abbrev scr2 : Memref sig .tc .vmem S8x1x1024 .f32 := Memref.whole cc0_scratch2

theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-! ## The contents -/

/-- The visit at which the current block of activations was quantised, -/
def rowStart (t : Fin cfg0.N) : Fin cfg0.N := ⟨t.val / 8 * 8, lt_of_le_of_lt (Nat.div_mul_le_self _ _) t.isLt⟩
/-- and the last visit so far at which norms were computed. -/
def normVisit (t : Fin cfg0.N) : Fin cfg0.N := ⟨min t.val 7, lt_of_le_of_lt (min_le_left _ _) t.isLt⟩

theorem rowStart_self (t : Fin cfg0.N) (h : t.val % 8 = 0) : rowStart t = t := Fin.ext (by show t.val / 8 * 8 = t.val; omega)
theorem rowStart_pred (t : Fin cfg0.N) (h : t.val % 8 ≠ 0) (h' : t.val - 1 < cfg0.N) : rowStart ⟨t.val - 1, h'⟩ = rowStart t :=
  Fin.ext (by show (t.val - 1) / 8 * 8 = t.val / 8 * 8; omega)
theorem normVisit_self (t : Fin cfg0.N) (h : t.val < 8) : normVisit t = t := Fin.ext (by show min t.val 7 = t.val; omega)
theorem normVisit_pred (t : Fin cfg0.N) (h : 8 ≤ t.val) (h' : t.val - 1 < cfg0.N) : normVisit ⟨t.val - 1, h'⟩ = normVisit t :=
  Fin.ext (by show min (t.val - 1) 7 = min t.val 7; omega)

/-- The codes, scales and down-projection of the current block of activations; -/
def codesAt (c : Dev nD) (t : Fin cfg0.N) : Vec F S1024x3072 .fp8e4m3 := codesOf (iblk m c 0 (rowStart t))
def scaleRowAt (c : Dev nD) (t : Fin cfg0.N) : Vec F S1x1x1024 .f32 := scaleRow (iblk m c 0 (rowStart t))
def scaleColAt (c : Dev nD) (t : Fin cfg0.N) : Vec F S1024x128 .f32 := scaleCol (iblk m c 0 (rowStart t))
def downAt (c : Dev nD) (t : Fin cfg0.N) : Vec F S1024x32 .bf16 := downOf (iblk m c 0 (rowStart t)) (iblk m c 3 (rowStart t))
/-- the norms last computed; -/
def normAt (c : Dev nD) (t : Fin cfg0.N) : Vec F S1x1024 .f32 :=
  normRow (iblk m c 1 (normVisit t)) (iblk m c 2 (normVisit t)) (iblk m c 3 (normVisit t)) (iblk m c 4 (normVisit t))
/-- the visit that computes row `k` of the gains; -/
def gainVisit (y : S8x1x1024.Idx) : Fin cfg0.N := ⟨(y 0).val, lt_of_lt_of_le (show (y 0).val < 8 from (y 0).isLt) (by rw [show cfg0.N = 48 from N_0]; omega)⟩
theorem gainVisit_cond (y : S8x1x1024.Idx) : k0_cond2 (grid0.coords (gainVisit y)) = 1#1 := (cond2_iff _).mpr (show (y 0).val < 8 from (y 0).isLt)
/-- the gains of visit `t`'s weight block, as stored; -/
def gainAt (c : Dev nD) (t : Fin cfg0.N) (h : k0_cond2 (grid0.coords t) = 1#1) : List (View.Piece (Elt F) S8x1x1024 .f32) :=
  gainPieces (grid0.coords t) h (iblk m c 1 t) (iblk m c 2 t) (iblk m c 3 t) (iblk m c 4 t) (iblk m c 5 t)
/-- and the whole of the gain buffer, once every row is computed. -/
def gains (c : Dev nD) : Vec F S8x1x1024 .f32 := fun y => View.canon (gainAt m c (gainVisit y) (gainVisit_cond y)) y
/-- The block of results a visit stores. -/
def yAt (c : Dev nD) (t : Fin cfg0.N) : Vec F S1024x1024 .bf16 :=
  yBlk (grid0.coords t) (codesAt m c t) (iblk m c 1 t) (iblk m c 2 t) (iblk m c 4 t) (scaleColAt m c t) (downAt m c t) (gains m c)

/-- Before visit `n` the rows of the gain buffer computed so far are in place. -/
def GainHeld (c : Dev nD) (n : ℕ) (g : Vec F S8x1x1024 .f32) : Prop := ∀ y : S8x1x1024.Idx, (y 0).val < n → g y = gains m c y

theorem yBlk_congr (i : grid0.Coords) (q w ws b s t) (g g' : Vec F S8x1x1024 .f32)
    (h : ∀ y : S8x1x1024.Idx, (y 0).val = (i 1).val → g y = g' y) : yBlk i q w ws b s t g = yBlk i q w ws b s t g' := by
  unfold yBlk
  rw [show View.ld g (Rect.unit (s := S8x1x1024) (k0_off6 i) S1x1x512.size (k0_off6_inb i)) = View.ld g' (Rect.unit (s := S8x1x1024) (k0_off6 i) S1x1x512.size (k0_off6_inb i)) from funext fun y => h _ (row6 i y),
    show View.ld g (Rect.unit (s := S8x1x1024) (k0_off5 i) S1x1x512.size (k0_off5_inb i)) = View.ld g' (Rect.unit (s := S8x1x1024) (k0_off5 i) S1x1x512.size (k0_off5_inb i)) from funext fun y => h _ (row5 i y)]

/-- A visit that stores its row of gains extends what is held; -/
theorem GainHeld.next {c : Dev nD} {t : Fin cfg0.N} {g : Vec F S8x1x1024 .f32} (hg : GainHeld m c t.val g) (h : t.val < 8)
    (hc : k0_cond2 (grid0.coords t) = 1#1) :
    GainHeld m c (t.val + 1) (gainNew (grid0.coords t) hc (iblk m c 1 t) (iblk m c 2 t) (iblk m c 3 t) (iblk m c 4 t) (iblk m c 5 t) g) := by
  intro y hy
  have hcol : ((grid0.coords t) 1).val = t.val := by rw [col_val]; omega
  by_cases e : (y 0).val = t.val
  · have et : gainVisit y = t := Fin.ext e
    subst et
    exact overs_eq_canon _ _ _ (gainPieces_cover _ _ _ _ _ _ _ y (e.trans hcol.symm))
  · refine (overs_of_not_mem _ _ _ fun p hp hm => e ?_).trans (hg y (by omega))
    exact (gainPieces_row _ _ _ _ _ _ _ p hp y hm).trans hcol

/-- a visit after the last row is stored changes nothing. -/
theorem GainHeld.stay {c : Dev nD} {n : ℕ} {g : Vec F S8x1x1024 .f32} (hg : GainHeld m c n g) (h : 8 ≤ n) : GainHeld m c (n + 1) g :=
  fun y _ => hg y (lt_of_lt_of_le (show (y 0).val < 8 from (y 0).isLt) h)

/-- Once a visit's row is in place the results' block it stores is `yAt`. -/
theorem yAt_eq {c : Dev nD} {t : Fin cfg0.N} {g : Vec F S8x1x1024 .f32} (hg : GainHeld m c (t.val + 1) g) :
    yBlk (grid0.coords t) (codesAt m c t) (iblk m c 1 t) (iblk m c 2 t) (iblk m c 4 t) (scaleColAt m c t) (downAt m c t) g = yAt m c t :=
  yBlk_congr _ _ _ _ _ _ _ _ _ fun y hy => hg y (by rw [hy, col_val]; omega)

/-! ## The pipeline's proof data -/

/-- The scratch between visits. -/
def PhiS (c : Dev nD) : (n : ℕ) → n ≤ cfg0.N → sProp 𝕄
  | 0, _ => Pipeline.ΦA spec0 c
  | n + 1, hn => iprop(iprop(owns (c : Thread nD τ) scr0 fullShare (scaleColAt m c ⟨n, hn⟩) ∗ owns (c : Thread nD τ) scr1 fullShare (downAt m c ⟨n, hn⟩) ∗ (∃ g, ⌜GainHeld m c (n + 1) g⌝ ∗ owns (c : Thread nD τ) scr2 fullShare g)) ∗ (∃ r, prngReg c r))

theorem PhiS_succ (c : Dev nD) (n : ℕ) (hn : n < cfg0.N) :
    PhiS m c (n + 1) hn = iprop(iprop(owns (c : Thread nD τ) scr0 fullShare (scaleColAt m c ⟨n, hn⟩) ∗ owns (c : Thread nD τ) scr1 fullShare (downAt m c ⟨n, hn⟩) ∗ (∃ g, ⌜GainHeld m c (n + 1) g⌝ ∗ owns (c : Thread nD τ) scr2 fullShare g)) ∗ (∃ r, prngReg c r)) := rfl

theorem PhiS_zero (c : Dev nD) (n : ℕ) (h : n ≤ cfg0.N) (hz : n = 0) : PhiS m c n h = Pipeline.ΦA spec0 c := by subst hz; rfl

theorem PhiS_pos (c : Dev nD) (n : ℕ) (h : n ≤ cfg0.N) (hz : n ≠ 0) :
    PhiS m c n h = iprop(iprop(owns (c : Thread nD τ) scr0 fullShare (scaleColAt m c ⟨n - 1, by omega⟩) ∗ owns (c : Thread nD τ) scr1 fullShare (downAt m c ⟨n - 1, by omega⟩) ∗ (∃ g, ⌜GainHeld m c n g⌝ ∗ owns (c : Thread nD τ) scr2 fullShare g)) ∗ (∃ r, prngReg c r)) :=
  match n, hz with
  | 0, hz => absurd rfl hz
  | _ + 1, _ => rfl

/-- Forgetting the scratch that the next visit overwrites. -/
theorem PhiS_any (c : Dev nD) (n : ℕ) (h : n ≤ cfg0.N) :
    PhiS m c n h ⊢ iprop(iprop((∃ d, owns (c : Thread nD τ) scr0 fullShare d) ∗ (∃ d, owns (c : Thread nD τ) scr1 fullShare d) ∗ (∃ g, ⌜GainHeld m c n g⌝ ∗ owns (c : Thread nD τ) scr2 fullShare g)) ∗ (∃ r, prngReg c r)) := by
  by_cases hz : n = 0
  · rw [PhiS_zero m c n h hz, PhiA_eq]
    iintro ⟨⟨HS0, HS1, ⟨%g, HS2⟩⟩, Hg⟩
    isplitl [HS0 HS1 HS2]
    · isplitl [HS0]; · iexact HS0
      isplitl [HS1]; · iexact HS1
      iexists g; isplitr; · ipureintro; intro y hy; omega
      iexact HS2
    iexact Hg
  · rw [PhiS_pos m c n h hz]
    iintro ⟨⟨HS0, HS1, HS2⟩, Hg⟩
    isplitl [HS0 HS1 HS2]
    · isplitl [HS0]; · iexists _; iexact HS0
      isplitl [HS1]; · iexists _; iexact HS1
      iexact HS2
    iexact Hg

theorem PhiS_any_frame (c : Dev nD) (n : ℕ) (h : n ≤ cfg0.N) (R : sProp 𝕄) :
    iprop(PhiS m c n h ∗ R) ⊢ iprop(iprop(iprop((∃ d, owns (c : Thread nD τ) scr0 fullShare d) ∗ (∃ d, owns (c : Thread nD τ) scr1 fullShare d) ∗ (∃ g, ⌜GainHeld m c n g⌝ ∗ owns (c : Thread nD τ) scr2 fullShare g)) ∗ (∃ r, prngReg c r)) ∗ R) :=
  sep_mono_l (PhiS_any m c n h)

/-- The arrays as the region finds them; after each visit the inputs' blocks and the contents above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yAt m c t
    | ⟨7, _⟩ => normAt m c t
    | ⟨8, _⟩ => codesAt m c t
    | ⟨9, _⟩ => scaleRowAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = yAt m c t := by dsimp only [dats]
theorem after_7 (c : Dev nD) (t : Fin cfg0.N) : (dats m 0 c).after 7 t = normAt m c t := by dsimp only [dats]
theorem after_8 (c : Dev nD) (t : Fin cfg0.N) : (dats m 0 c).after 8 t = codesAt m c t := by dsimp only [dats]
theorem after_9 (c : Dev nD) (t : Fin cfg0.N) : (dats m 0 c).after 9 t = scaleRowAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem leaves_0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl, after_5]
theorem leaves_6 (c : Dev nD) (t : Fin cfg0.N) :
    (dats m 0 c).leavesExact 6 t = owns (c : Thread nD τ) (ms6 t) fullShare (yAt m c t) := by
  unfold Dat.leavesExact; rw [show cfg0.idle 6 (grid0.coords t) = false from rfl, after_6]

/-! ### Output 7 -/
theorem live_7 (c : Dev nD) (t : Fin cfg0.N) (h : ¬(8 ≤ t.val)) :
    (dats m 0 c).leavesExact 7 t = owns (c : Thread nD τ) (ms7 t) fullShare (normAt m c t) := by
  unfold Dat.leavesExact; rw [show cfg0.idle 7 (grid0.coords t) = false from by rw [idle7_iff]; exact decide_eq_false h, after_7]
theorem normAt_pred (c : Dev nD) (t : Fin cfg0.N) (h : 8 ≤ t.val) (h' : t.val - 1 < cfg0.N) : normAt m c ⟨t.val - 1, h'⟩ = normAt m c t := by
  unfold normAt; rw [normVisit_pred t h]
theorem before_7 (c : Dev nD) (t : Fin cfg0.N) (h : 8 ≤ t.val) (d) : (dats m 0 c).before 7 t d = normAt m c t := by
  have hlt := visits t
  rw [Dat.before_out_traj _ 7 rfl (fun _ _ => rfl) (fun t _ hi _ => by
      rw [after_7, after_7]
      exact (normAt_pred m c t (of_decide_eq_true (by rw [← hi]; exact (idle7_iff t).symm)) _).symm) t.val t rfl d,
    if_neg (by rw [fresh7_eq]; simp only [fresh7]; simp; omega), after_7, normAt_pred m c t h]
theorem idle_7 (c : Dev nD) (t : Fin cfg0.N) (h : 8 ≤ t.val) :
    owns (c : Thread nD τ) (ms7 t) fullShare (normAt m c t) ⊢ ((dats m 0 c).leavesExact 7 t : sProp 𝕄) := by
  have hi : cfg0.idle 7 (grid0.coords t) = true := by rw [idle7_iff]; exact decide_eq_true h
  cases hf : (cfg0.win 7).flush t
  · rw [Dat.leavesExact_idle _ 7 t hi hf]
    iintro H; iexists (fun _ => Classical.arbitrary _); rw [before_7 m c t h]; iexact H
  · unfold Dat.leavesExact; rw [show cfg0.idle 7 (cfg0.grid.coords t) = true from hi, hf, after_7]

/-! ### Output 8 -/
theorem live_8 (c : Dev nD) (t : Fin cfg0.N) (h : ¬(t.val % 8 ≠ 0)) :
    (dats m 0 c).leavesExact 8 t = owns (c : Thread nD τ) (ms8 t) fullShare (codesAt m c t) := by
  unfold Dat.leavesExact; rw [show cfg0.idle 8 (grid0.coords t) = false from by rw [idle8_iff]; exact decide_eq_false h, after_8]
theorem codesAt_pred (c : Dev nD) (t : Fin cfg0.N) (h : t.val % 8 ≠ 0) (h' : t.val - 1 < cfg0.N) : codesAt m c ⟨t.val - 1, h'⟩ = codesAt m c t := by
  unfold codesAt; rw [rowStart_pred t h]
theorem before_8 (c : Dev nD) (t : Fin cfg0.N) (h : t.val % 8 ≠ 0) (d) : (dats m 0 c).before 8 t d = codesAt m c t := by
  have hlt := visits t
  rw [Dat.before_out_traj _ 8 rfl (fun _ _ => rfl) (fun t _ hi _ => by
      rw [after_8, after_8]
      exact (codesAt_pred m c t (of_decide_eq_true (by rw [← hi]; exact (idle8_iff t).symm)) _).symm) t.val t rfl d,
    if_neg (by rw [fresh8_eq]; simp only [fresh8]; simp; omega), after_8, codesAt_pred m c t h]
theorem idle_8 (c : Dev nD) (t : Fin cfg0.N) (h : t.val % 8 ≠ 0) :
    owns (c : Thread nD τ) (ms8 t) fullShare (codesAt m c t) ⊢ ((dats m 0 c).leavesExact 8 t : sProp 𝕄) := by
  have hi : cfg0.idle 8 (grid0.coords t) = true := by rw [idle8_iff]; exact decide_eq_true h
  cases hf : (cfg0.win 8).flush t
  · rw [Dat.leavesExact_idle _ 8 t hi hf]
    iintro H; iexists (fun _ => Classical.arbitrary _); rw [before_8 m c t h]; iexact H
  · unfold Dat.leavesExact; rw [show cfg0.idle 8 (cfg0.grid.coords t) = true from hi, hf, after_8]

/-! ### Output 9 -/
theorem live_9 (c : Dev nD) (t : Fin cfg0.N) (h : ¬(t.val % 8 ≠ 0)) :
    (dats m 0 c).leavesExact 9 t = owns (c : Thread nD τ) (ms9 t) fullShare (scaleRowAt m c t) := by
  unfold Dat.leavesExact; rw [show cfg0.idle 9 (grid0.coords t) = false from by rw [idle9_iff]; exact decide_eq_false h, after_9]
theorem scaleRowAt_pred (c : Dev nD) (t : Fin cfg0.N) (h : t.val % 8 ≠ 0) (h' : t.val - 1 < cfg0.N) : scaleRowAt m c ⟨t.val - 1, h'⟩ = scaleRowAt m c t := by
  unfold scaleRowAt; rw [rowStart_pred t h]
theorem before_9 (c : Dev nD) (t : Fin cfg0.N) (h : t.val % 8 ≠ 0) (d) : (dats m 0 c).before 9 t d = scaleRowAt m c t := by
  have hlt := visits t
  rw [Dat.before_out_traj _ 9 rfl (fun _ _ => rfl) (fun t _ hi _ => by
      rw [after_9, after_9]
      exact (scaleRowAt_pred m c t (of_decide_eq_true (by rw [← hi]; exact (idle9_iff t).symm)) _).symm) t.val t rfl d,
    if_neg (by rw [fresh9_eq]; simp only [fresh8]; simp; omega), after_9, scaleRowAt_pred m c t h]
theorem idle_9 (c : Dev nD) (t : Fin cfg0.N) (h : t.val % 8 ≠ 0) :
    owns (c : Thread nD τ) (ms9 t) fullShare (scaleRowAt m c t) ⊢ ((dats m 0 c).leavesExact 9 t : sProp 𝕄) := by
  have hi : cfg0.idle 9 (grid0.coords t) = true := by rw [idle9_iff]; exact decide_eq_true h
  cases hf : (cfg0.win 9).flush t
  · rw [Dat.leavesExact_idle _ 9 t hi hf]
    iintro H; iexists (fun _ => Classical.arbitrary _); rw [before_9 m c t h]; iexact H
  · unfold Dat.leavesExact; rw [show cfg0.idle 9 (cfg0.grid.coords t) = true from hi, hf, after_9]

/-! ### The contents at a visit that computes them -/
theorem codesAt_self (c : Dev nD) (t : Fin cfg0.N) (h : t.val % 8 = 0) : codesAt m c t = codesOf (iblk m c 0 t) := by
  unfold codesAt; rw [rowStart_self t h]
theorem scaleRowAt_self (c : Dev nD) (t : Fin cfg0.N) (h : t.val % 8 = 0) : scaleRowAt m c t = scaleRow (iblk m c 0 t) := by
  unfold scaleRowAt; rw [rowStart_self t h]
theorem scaleColAt_self (c : Dev nD) (t : Fin cfg0.N) (h : t.val % 8 = 0) : scaleColAt m c t = scaleCol (iblk m c 0 t) := by
  unfold scaleColAt; rw [rowStart_self t h]
theorem downAt_self (c : Dev nD) (t : Fin cfg0.N) (h : t.val % 8 = 0) : downAt m c t = downOf (iblk m c 0 t) (iblk m c 3 t) := by
  unfold downAt; rw [rowStart_self t h]
theorem normAt_self (c : Dev nD) (t : Fin cfg0.N) (h : t.val < 8) : normAt m c t = normRow (iblk m c 1 t) (iblk m c 2 t) (iblk m c 3 t) (iblk m c 4 t) := by
  unfold normAt; rw [normVisit_self t h]
theorem scaleColAt_pred (c : Dev nD) (t : Fin cfg0.N) (h : t.val % 8 ≠ 0) (h' : t.val - 1 < cfg0.N) : scaleColAt m c ⟨t.val - 1, h'⟩ = scaleColAt m c t := by
  unfold scaleColAt; rw [rowStart_pred t h]
theorem downAt_pred (c : Dev nD) (t : Fin cfg0.N) (h : t.val % 8 ≠ 0) (h' : t.val - 1 < cfg0.N) : downAt m c ⟨t.val - 1, h'⟩ = downAt m c t := by
  unfold downAt; rw [rowStart_pred t h]

end Cert.KernelIdeal.Gen

end
-- ==== Proof.Visit.lean ====
module

public import proofs.«01_k».proof.Proof.Held
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # One visit of the body keeps what the buffers hold -/

/-- What the body is called with at visit `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2000000 in
/-- The first visit. -/
theorem visitA (c : Dev nD) (t : Fin cfg0.N) (h0 : t.val % 8 = 0) (h1 : t.val < 8) :
    bodyPre m c t ⊢ wp frame (wpE (defs₀ (F := F)) Variants.none c none) Set.univ (bodyAt0 t) (fun _ => bodyPost m c t) := by
  have hN := visits t
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ, PhiS_castSucc]
  rw [leaves_0, leaves_1, leaves_2, leaves_3, leaves_4, leaves_5, leaves_6]
  rw [live_8 m c t (fun h => h h0), live_9 m c t (fun h => h h0)]
  rw [live_7 m c t (fun h => by omega)]
  refine BIBase.Entails.trans (PhiS_any_frame m c t.val _ _) ?_
  iintro ⟨⟨⟨⟨%s0, HS0⟩, ⟨%s1, HS1⟩, ⟨%g, %hg, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hg' := hg.next m h1 ((cond2_iff t).mpr h1)
  have hy := yAt_eq m hg'
  rw [← hy]
  rw [codesAt_self m c t h0, scaleColAt_self m c t h0, downAt_self m c t h0, scaleRowAt_self m c t h0]
  rw [normAt_self m c t h1]
  iapply (runA c (grid0.coords t) _ _ _ _ _ _ _ _ _ _ _ _ _ _ _ _ _ _ _ _ _ _ _ _ _ _ ((cond1_iff t).mpr h0) ((cond2_iff t).mpr h1) (iblk m c 0 t) (iblk m c 1 t) (iblk m c 2 t) (iblk m c 3 t) (iblk m c 4 t) (iblk m c 5 t) g Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexists _; iexact HS0
  isplitl [HS1]; · iexists _; iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexists _; isplitr; swap; · iexact HS2
      ipureintro; exact hg'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexact H7
  isplitl [H8]
  · iexact H8
  iexact H9

set_option maxHeartbeats 2000000 in
/-- A visit that computes norms only. -/
theorem visitB (c : Dev nD) (t : Fin cfg0.N) (h0 : ¬t.val % 8 = 0) (h1 : t.val < 8) :
    bodyPre m c t ⊢ wp frame (wpE (defs₀ (F := F)) Variants.none c none) Set.univ (bodyAt0 t) (fun _ => bodyPost m c t) := by
  have hN := visits t
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ, PhiS_castSucc]
  rw [leaves_0, leaves_1, leaves_2, leaves_3, leaves_4, leaves_5, leaves_6]
  simp only [before_8 m c t h0, before_9 m c t h0]
  rw [live_7 m c t (fun h => by omega)]
  rw [PhiS_pos m c _ _ (by omega)]
  iintro ⟨⟨⟨HS0, HS1, ⟨%g, %hg, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hg' := hg.next m h1 ((cond2_iff t).mpr h1)
  have hy := yAt_eq m hg'
  rw [← hy]
  rw [scaleColAt_pred m c t h0, downAt_pred m c t h0]
  rw [normAt_self m c t h1]
  iapply (runB c (grid0.coords t) _ _ _ _ _ _ _ _ _ _ _ _ _ _ _ _ _ _ _ _ _ _ _ _ _ _ (fun h => h0 ((cond1_iff t).mp h)) ((cond2_iff t).mpr h1) (iblk m c 0 t) (iblk m c 1 t) (iblk m c 2 t) (iblk m c 3 t) (iblk m c 4 t) (iblk m c 5 t) g (codesAt m c t) (scaleRowAt m c t) (scaleColAt m c t) (downAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexists _; isplitr; swap; · iexact HS2
      ipureintro; exact hg'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexact H7
  isplitl [H8]
  · iapply (idle_8 m c t h0); iexact H8
  iapply (idle_9 m c t h0); iexact H9

set_option maxHeartbeats 2000000 in
/-- A visit that quantises only. -/
theorem visitC (c : Dev nD) (t : Fin cfg0.N) (h0 : t.val % 8 = 0) (h1 : ¬t.val < 8) :
    bodyPre m c t ⊢ wp frame (wpE (defs₀ (F := F)) Variants.none c none) Set.univ (bodyAt0 t) (fun _ => bodyPost m c t) := by
  have hN := visits t
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ, PhiS_castSucc]
  rw [leaves_0, leaves_1, leaves_2, leaves_3, leaves_4, leaves_5, leaves_6]
  rw [live_8 m c t (fun h => h h0), live_9 m c t (fun h => h h0)]
  simp only [before_7 m c t (by omega)]
  refine BIBase.Entails.trans (PhiS_any_frame m c t.val _ _) ?_
  iintro ⟨⟨⟨⟨%s0, HS0⟩, ⟨%s1, HS1⟩, ⟨%g, %hg, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hg' := hg.stay m (by omega)
  have hy := yAt_eq m hg'
  rw [← hy]
  rw [codesAt_self m c t h0, scaleColAt_self m c t h0, downAt_self m c t h0, scaleRowAt_self m c t h0]
  iapply (runC c (grid0.coords t) _ _ _ _ _ _ _ _ _ _ _ _ _ _ _ _ _ _ _ _ _ _ _ _ _ _ ((cond1_iff t).mpr h0) (fun h => h1 ((cond2_iff t).mp h)) (iblk m c 0 t) (iblk m c 1 t) (iblk m c 2 t) (iblk m c 3 t) (iblk m c 4 t) (iblk m c 5 t) g (normAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists _; iexact H9
  isplitl [HS0]; · iexists _; iexact HS0
  isplitl [HS1]; · iexists _; iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexists _; isplitr; swap; · iexact HS2
      ipureintro; exact hg'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (idle_7 m c t (by omega)); iexact H7
  isplitl [H8]
  · iexact H8
  iexact H9

set_option maxHeartbeats 2000000 in
/-- A visit that does neither. -/
theorem visitD (c : Dev nD) (t : Fin cfg0.N) (h0 : ¬t.val % 8 = 0) (h1 : ¬t.val < 8) :
    bodyPre m c t ⊢ wp frame (wpE (defs₀ (F := F)) Variants.none c none) Set.univ (bodyAt0 t) (fun _ => bodyPost m c t) := by
  have hN := visits t
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ, PhiS_castSucc]
  rw [leaves_0, leaves_1, leaves_2, leaves_3, leaves_4, leaves_5, leaves_6]
  simp only [before_8 m c t h0, before_9 m c t h0]
  simp only [before_7 m c t (by omega)]
  rw [PhiS_pos m c _ _ (by omega)]
  iintro ⟨⟨⟨HS0, HS1, ⟨%g, %hg, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hg' := hg.stay m (by omega)
  have hy := yAt_eq m hg'
  rw [← hy]
  rw [scaleColAt_pred m c t h0, downAt_pred m c t h0]
  iapply (runD c (grid0.coords t) _ _ _ _ _ _ _ _ _ _ _ _ _ _ _ _ _ _ _ _ _ _ _ _ _ _ (fun h => h0 ((cond1_iff t).mp h)) (fun h => h1 ((cond2_iff t).mp h)) (iblk m c 0 t) (iblk m c 1 t) (iblk m c 2 t) (iblk m c 3 t) (iblk m c 4 t) (iblk m c 5 t) g (normAt m c t) (codesAt m c t) (scaleRowAt m c t) (scaleColAt m c t) (downAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexists _; isplitr; swap; · iexact HS2
      ipureintro; exact hg'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (idle_7 m c t (by omega)); iexact H7
  isplitl [H8]
  · iapply (idle_8 m c t h0); iexact H8
  iapply (idle_9 m c t h0); iexact H9

/-- Each visit takes the buffers from what is held before it to what is held after it. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0 <;> by_cases h1 : t.val < 8
  · exact visitA m c t h0 h1
  · exact visitC m c t h0 h1
  · exact visitB m c t h0 h1
  · exact visitD m c t h0 h1

/-! ## The run and the frame -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N le_rfl from rfl, PhiA_eq]
  refine (PhiS_any m c cfg0.N _).trans ?_
  iintro ⟨⟨HS0, HS1, ⟨%g, -, HS2⟩⟩, Hg⟩
  isplitl [HS0 HS1 HS2]
  · isplitl [HS0]; · iexact HS0
    isplitl [HS1]; · iexact HS1
    iexists _; iexact HS2
  iexact Hg

set_option backward.isDefEq.respectTransparency.types false in
/-- Every run of the program ends, its arrays at what the visits leave and its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Same.lean ====
module

public import proofs.«01_k».proof.Proof.Gen.Kernel
public import proofs.«01_k».proof.Proof.Visit

/-!
# The kernel and its idealization are one program

No operation was rewritten, so the two printed programs agree definition by definition, at any float values, and the
run proved of the one is a run of the other.
-/

@[expose] public section

noncomputable section

namespace Cert.Proof

open Idealize.ShloMosaic Idealize.SL.Sem

variable {F : FTy → Type} [FloatOps F]

theorem bodies_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

theorem defs_eq : Cert.Kernel.defs (F := F) = Cert.KernelIdeal.defs (F := F) := by
  unfold Cert.Kernel.defs Cert.KernelIdeal.defs
  exact congrArg (Pipeline.defs Cert.KernelIdeal.pcfgs) bodies_eq

theorem main_eq : Cert.Kernel.main (F := F) = Cert.KernelIdeal.main (F := F) := rfl

/-- The frame of the kernel, from its idealization's. -/
theorem kernel_frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [defs_eq, main_eq]
  exact Cert.KernelIdeal.Gen.frame (F := F) m g

end Cert.Proof

end
-- ==== Proof.Search.lean ====
module

public import proofs.«01_k».proof.Proof.Spec
public import Idealize.ShloMosaic.Lib.Pointwise

/-!
# The power-of-two scale of one row, as a number

The kernel finds the exponent of a row's scale by a binary search over the eight bits of a float's exponent
field; the reference takes a logarithm and rounds it down. Over the extended reals both are the same integer,
and the words the kernel builds of it denote the powers of two the reference computes.
-/

@[expose] public section

set_option maxRecDepth 16384

noncomputable section

namespace Cert.KernelIdeal.Gen

open Idealize.ShloMosaic

/-- The number denoted by the word whose exponent field is `b` and whose other bits are zero. -/
def fieldPower (b : BitVec 32) : EReal := Ideal.ofBits .f32 (IntOp.shli .vector b 23#32)

/-- One step of the search: take the step up if the row's value reaches the power it leads to. -/
def climb (r : EReal) (f s : BitVec 32) : BitVec 32 :=
  Scalar.select (BitVec.ofBool (decide (fieldPower (IntOp.addi f s) ≤ r))) (IntOp.addi f s) f

/-- The exponent field found by the eight steps. -/
def climbAll (r : EReal) : BitVec 32 :=
  climb r (climb r (climb r (climb r (climb r (climb r (climb r (climb r 0#32 128#32) 64#32) 32#32) 16#32) 8#32) 4#32) 2#32) 1#32

/-- The field, or 255 above the cutoff. -/
def cutField (r : EReal) : BitVec 32 :=
  Scalar.select (BitVec.ofBool (decide (Ideal.ofBits .f32 0x7B800000#32 ≤ r))) 255#32 (climbAll r)

/-- The exponent the kernel uses, a word: zero where the field is special. -/
def expWord (r : EReal) : BitVec 32 :=
  Scalar.select (IntOp.ori (IntOp.cmpi .eq (cutField r) 0#32) (IntOp.cmpi .eq (cutField r) 255#32)) 0#32
    (IntOp.subi (cutField r) 126#32)

/-- The scale and its inverse, from the exponent word. -/
def scaleOf (r : EReal) : EReal := fieldPower (IntOp.addi (expWord r) 127#32)
def invOf (r : EReal) : EReal := fieldPower (IntOp.addi (IntOp.subi 0#32 (expWord r)) 127#32)

theorem ofBits_f32 (b : BitVec 32) : Ideal.ofBits .f32 b = Ideal.ieee 8 23 b := rfl

/-- A field between 1 and 254 denotes two to the field less the bias. -/
theorem fieldPower_eq (b : BitVec 32) (h1 : 1 ≤ b.toNat) (h2 : b.toNat ≤ 254) :
    fieldPower b = (((2 : ℝ) ^ ((b.toNat : ℤ) - 127) : ℝ) : EReal) := by
  have hs : (IntOp.shli .vector b 23#32).toNat = b.toNat * 8388608 := by
    unfold IntOp.shli
    rw [if_pos (by decide)]
    simp only [BitVec.shiftLeft_eq', BitVec.toNat_shiftLeft, Nat.shiftLeft_eq]
    rw [show (23#32).toNat = 23 from rfl]
    omega
  have he : ((IntOp.shli .vector b 23#32).extractLsb' 23 8).toNat = b.toNat := by
    rw [BitVec.extractLsb'_toNat, hs, Nat.shiftRight_eq_div_pow]; omega
  have hf : ((IntOp.shli .vector b 23#32).extractLsb' 0 23).toNat = 0 := by
    rw [BitVec.extractLsb'_toNat, hs, Nat.shiftRight_eq_div_pow]; omega
  have hn : ((IntOp.shli .vector b 23#32).extractLsb' (8 + 23) 1 == 1#1) = false := by
    rw [beq_eq_false_iff_ne]
    intro h
    have := congrArg BitVec.toNat h
    rw [BitVec.extractLsb'_toNat, hs, Nat.shiftRight_eq_div_pow] at this
    rw [show (1#1).toNat = 1 from rfl] at this
    omega
  unfold fieldPower
  rw [ofBits_f32]
  unfold Ideal.ieee
  simp only [he, hf, hn]
  rw [if_neg (show ¬ b.toNat = 2 ^ 8 - 1 by omega), if_neg (show ¬ b.toNat = 0 by omega)]
  refine congrArg (fun z : ℝ => (z : EReal)) ?_
  have : ((b.toNat : ℤ) - 127) = ((b.toNat : ℤ) - (2 ^ (8 - 1) - 1) - (23 : ℕ)) + 23 := by norm_num
  rw [this, zpow_add₀ (by norm_num : (2 : ℝ) ≠ 0)]
  norm_num
  ring

/-- The field of all ones denotes the infinity. -/
theorem fieldPower_top : fieldPower 255#32 = ⊤ := by
  unfold fieldPower
  rw [ofBits_f32]
  unfold Ideal.ieee
  rw [if_pos (by decide), if_pos (by decide), if_neg (by decide)]

theorem cutoff_eq : Ideal.ofBits .f32 0x7B800000#32 = (((2 : ℝ) ^ (120 : ℤ) : ℝ) : EReal) := by
  have := fieldPower_eq 247#32 (by decide) (by decide)
  rw [← show fieldPower 247#32 = Ideal.ofBits .f32 0x7B800000#32 from congrArg (Ideal.ofBits .f32) (by decide), this]
  norm_num

theorem least_eq : Ideal.ofBits .f32 0x00800000#32 = (((2 : ℝ) ^ (-126 : ℤ) : ℝ) : EReal) := by
  have := fieldPower_eq 1#32 (by decide) (by decide)
  rw [← show fieldPower 1#32 = Ideal.ofBits .f32 0x00800000#32 from congrArg (Ideal.ofBits .f32) (by decide), this]
  norm_num

theorem two_eq : Ideal.ofBits .f32 0x40000000#32 = ((2 : ℝ) : EReal) := by
  have := fieldPower_eq 128#32 (by decide) (by decide)
  rw [← show fieldPower 128#32 = Ideal.ofBits .f32 0x40000000#32 from congrArg (Ideal.ofBits .f32) (by decide), this]
  norm_num

/-- One step keeps the wanted field `k` between the field found and the field found plus the step. -/
theorem climb_step {r : EReal} {k : ℕ} (hT : ∀ b : BitVec 32, 1 ≤ b.toNat → b.toNat ≤ 255 → (fieldPower b ≤ r ↔ b.toNat ≤ k))
    (f s : BitVec 32) (n : ℕ) (hs : s.toNat = n) (hn : 0 < n) (h : f.toNat ≤ k ∧ k < f.toNat + 2 * n ∧ f.toNat + 2 * n ≤ 256) :
    (climb r f s).toNat ≤ k ∧ k < (climb r f s).toNat + n ∧ (climb r f s).toNat + n ≤ 256 := by
  have ha : (IntOp.addi f s).toNat = f.toNat + n := by
    show (f + s).toNat = _
    rw [BitVec.toNat_add, hs]; omega
  have hb := hT (IntOp.addi f s) (by omega) (by omega)
  unfold climb Scalar.select
  by_cases hc : fieldPower (IntOp.addi f s) ≤ r
  · rw [if_pos (by simp [hc]), ha]
    have := hb.1 hc
    omega
  · rw [if_neg (by simp [hc])]
    have : ¬ (IntOp.addi f s).toNat ≤ k := fun hk => hc (hb.2 hk)
    omega

theorem climbAll_eq {r : EReal} {k : ℕ} (hT : ∀ b : BitVec 32, 1 ≤ b.toNat → b.toNat ≤ 255 → (fieldPower b ≤ r ↔ b.toNat ≤ k))
    (hk : k < 256) : (climbAll r).toNat = k := by
  have h0 : (0#32).toNat ≤ k ∧ k < (0#32).toNat + 2 * 128 ∧ (0#32).toNat + 2 * 128 ≤ 256 := by
    rw [show (0#32).toNat = 0 from rfl]; omega
  have h1 := climb_step hT _ 128#32 128 rfl (by norm_num) h0
  have h2 := climb_step hT _ 64#32 64 rfl (by norm_num) h1
  have h3 := climb_step hT _ 32#32 32 rfl (by norm_num) h2
  have h4 := climb_step hT _ 16#32 16 rfl (by norm_num) h3
  have h5 := climb_step hT _ 8#32 8 rfl (by norm_num) h4
  have h6 := climb_step hT _ 4#32 4 rfl (by norm_num) h5
  have h7 := climb_step hT _ 2#32 2 rfl (by norm_num) h6
  have h8 := climb_step hT _ 1#32 1 rfl (by norm_num) h7
  unfold climbAll
  omega

/-- The exponent the reference uses. -/
def refExp (r : EReal) : EReal :=
  Scalar.select (IntOp.andi (BitVec.ofBool (decide (Ideal.ofBits .f32 0x00800000#32 ≤ r)))
      (BitVec.ofBool (decide (r < Ideal.ofBits .f32 0x7B800000#32))))
    (Ideal.liftRound Int.floor (Ideal.div (Ideal.log r) (Ideal.log (Ideal.ofBits .f32 0x40000000#32))) + 1) 0

/-- Outside the range both exponents are zero; inside, with `2 ^ n ≤ r < 2 ^ (n + 1)`, both are `n + 1`. -/
theorem exps (r : EReal) :
    (expWord r = 0#32 ∧ refExp r = 0) ∨
    ∃ k : ℕ, 1 ≤ k ∧ k ≤ 246 ∧ expWord r = BitVec.ofNat 32 k - 126#32 ∧ refExp r = (((k : ℝ) - 126 : ℝ) : EReal) := by
  by_cases hhi : Ideal.ofBits .f32 0x7B800000#32 ≤ r
  · left
    constructor
    · unfold expWord cutField
      simp only [hhi, Scalar.select, decide_true, BitVec.ofBool_true]
      generalize climbAll r = f
      rw [if_pos trivial, if_pos (by decide)]
    · unfold refExp
      simp only [not_lt.2 hhi, Scalar.select, decide_false, BitVec.ofBool_false]
      rw [if_neg]
      show ¬ (_ &&& _ = _)
      generalize BitVec.ofBool _ = z
      revert z; decide
  have hcut : cutField r = climbAll r := by
    unfold cutField
    simp only [hhi, Scalar.select, decide_false, BitVec.ofBool_false]
    rw [if_neg (by decide)]
  by_cases hlo : Ideal.ofBits .f32 0x00800000#32 ≤ r
  · right
    rw [cutoff_eq, not_le] at hhi
    rw [least_eq] at hlo
    obtain ⟨x, rfl⟩ : ∃ x : ℝ, r = (x : EReal) := by
      induction r using EReal.rec with
      | bot => simp at hlo
      | top => simp at hhi
      | coe x => exact ⟨x, rfl⟩
    rw [EReal.coe_lt_coe_iff] at hhi
    rw [EReal.coe_le_coe_iff] at hlo
    have hx : 0 < x := lt_of_lt_of_le (by positivity) hlo
    set n : ℤ := ⌊Real.log x / Real.log 2⌋ with hn
    have hle : ∀ j : ℤ, (2 : ℝ) ^ j ≤ x ↔ j ≤ n := fun j => by
      rw [hn, Int.le_floor, le_div_iff₀ (Real.log_pos (by norm_num)), ← Real.log_zpow,
        Real.log_le_log_iff (by positivity) hx]
    have h1 : -126 ≤ n := (hle _).1 hlo
    have h2 : n ≤ 119 := by
      by_contra hcon
      exact absurd ((hle 120).2 (by omega)) (not_le.2 hhi)
    obtain ⟨k, hk⟩ : ∃ k : ℕ, (k : ℤ) = n + 127 := ⟨(n + 127).toNat, by omega⟩
    refine ⟨k, by omega, by omega, ?_, ?_⟩
    · have hall : (climbAll (x : EReal)).toNat = k := by
        refine climbAll_eq (fun b hb1 hb2 => ?_) (by omega)
        rcases Nat.lt_or_ge b.toNat 255 with hb | hb
        · rw [fieldPower_eq b hb1 (by omega), EReal.coe_le_coe_iff, hle]
          omega
        · have : b = 255#32 := BitVec.eq_of_toNat_eq (by rw [show (255#32).toNat = 255 from rfl]; omega)
          rw [this, fieldPower_top]
          constructor
          · intro h; exact absurd h (by simp)
          · intro h; rw [show (255#32).toNat = 255 from rfl] at h; omega
      have hw : climbAll (x : EReal) = BitVec.ofNat 32 k :=
        BitVec.eq_of_toNat_eq (by rw [hall, BitVec.toNat_ofNat]; omega)
      unfold expWord
      rw [hcut, hw]
      unfold Scalar.select
      rw [if_neg]
      · rfl
      · have a1 : BitVec.ofNat 32 k ≠ 0#32 := fun h => by
          have := congrArg BitVec.toNat h
          rw [BitVec.toNat_ofNat, show (0#32).toNat = 0 from rfl] at this; omega
        have a2 : BitVec.ofNat 32 k ≠ 255#32 := fun h => by
          have := congrArg BitVec.toNat h
          rw [BitVec.toNat_ofNat, show (255#32).toNat = 255 from rfl] at this; omega
        have b1 : (BitVec.ofNat 32 k == 0#32) = false := beq_eq_false_iff_ne.2 a1
        have b2 : (BitVec.ofNat 32 k == 255#32) = false := beq_eq_false_iff_ne.2 a2
        simp [IntOp.ori, IntOp.cmpi, b1, b2]
    · unfold refExp
      rw [cutoff_eq, least_eq, two_eq]
      have hl : Ideal.log (x : EReal) = ((Real.log x : ℝ) : EReal) := by
        show (if x ≤ 0 then _ else _) = _
        rw [if_neg (not_le.2 hx)]
      have hl2 : Ideal.log ((2 : ℝ) : EReal) = ((Real.log 2 : ℝ) : EReal) := by
        show (if (2 : ℝ) ≤ 0 then _ else _) = _
        rw [if_neg (by norm_num)]
      have hl0 : Real.log 2 ≠ 0 := (Real.log_pos (by norm_num)).ne'
      have hd : Ideal.div ((Real.log x : ℝ) : EReal) ((Real.log 2 : ℝ) : EReal) = ((Real.log x / Real.log 2 : ℝ) : EReal) := by
        unfold Ideal.div
        rw [if_neg (by rw [← EReal.coe_zero]; exact fun h => hl0 (EReal.coe_injective h)), ← EReal.coe_inv, ← EReal.coe_mul]
        rfl
      rw [hl, hl2, hd]
      have hfl : Ideal.liftRound Int.floor ((Real.log x / Real.log 2 : ℝ) : EReal) = (((n : ℤ) : ℝ) : EReal) := rfl
      rw [hfl]
      have c1 : (((2 : ℝ) ^ (-126 : ℤ) : ℝ) : EReal) ≤ (x : EReal) := EReal.coe_le_coe_iff.2 hlo
      have c2 : (x : EReal) < (((2 : ℝ) ^ (120 : ℤ) : ℝ) : EReal) := EReal.coe_lt_coe_iff.2 hhi
      simp only [c1, c2, decide_true, BitVec.ofBool_true, Scalar.select]
      rw [if_pos (by decide), ← EReal.coe_one, ← EReal.coe_add]
      congr 1
      have : (k : ℝ) = (n : ℝ) + 127 := by exact_mod_cast hk
      rw [this]; ring
  · left
    constructor
    · have hall : (climbAll r).toNat = 0 := by
        refine climbAll_eq (fun b hb1 hb2 => ⟨fun h => ?_, fun h => by omega⟩) (by norm_num)
        exfalso
        refine hlo (le_trans ?_ h)
        rw [least_eq]
        rcases Nat.lt_or_ge b.toNat 255 with hb | hb
        · rw [fieldPower_eq b hb1 (by omega), EReal.coe_le_coe_iff]
          exact zpow_le_zpow_right₀ (by norm_num) (by omega)
        · have : b = 255#32 := BitVec.eq_of_toNat_eq (by rw [show (255#32).toNat = 255 from rfl]; omega)
          rw [this, fieldPower_top]
          exact le_top
      have hw : climbAll r = 0#32 := BitVec.eq_of_toNat_eq hall
      unfold expWord
      rw [hcut, hw]
      decide
    · unfold refExp
      simp only [hlo, Scalar.select, decide_false, BitVec.ofBool_false]
      rw [if_neg]
      show ¬ (_ &&& _ = _)
      generalize BitVec.ofBool _ = z
      revert z; decide

/-- The kernel's scale is two to the reference's exponent. -/
theorem scaleOf_eq (r : EReal) : scaleOf r = Ideal.exp2 (refExp r) := by
  unfold scaleOf
  rcases exps r with ⟨h1, h2⟩ | ⟨k, hk1, hk2, h1, h2⟩
  · rw [h1, h2, fieldPower_eq _ (by decide) (by decide)]
    show _ = ((Real.rpow 2 0 : ℝ) : EReal)
    congr 1
    have : Real.rpow 2 0 = 1 := Real.rpow_zero 2
    rw [this]; norm_num
    exact zpow_zero _
  · have ht : (IntOp.addi (BitVec.ofNat 32 k - 126#32) 127#32).toNat = k + 1 := by
      show (BitVec.ofNat 32 k - 126#32 + 127#32).toNat = _
      simp only [BitVec.toNat_add, BitVec.toNat_sub, BitVec.toNat_ofNat]
      omega
    rw [h1, h2, fieldPower_eq _ (by omega) (by omega), ht]
    show _ = ((Real.rpow 2 ((k : ℝ) - 126) : ℝ) : EReal)
    congr 1
    have : Real.rpow 2 ((k : ℝ) - 126) = (2 : ℝ) ^ ((k : ℤ) - 126 : ℤ) := by
      have := Real.rpow_intCast (2 : ℝ) ((k : ℤ) - 126)
      rw [← this]; push_cast; rfl
    rw [this]
    congr 1
    push_cast; ring

/-- The kernel's inverse scale is two to the reference's exponent taken from zero. -/
theorem invOf_eq (r : EReal) : invOf r = Ideal.exp2 (0 - refExp r) := by
  unfold invOf
  rcases exps r with ⟨h1, h2⟩ | ⟨k, hk1, hk2, h1, h2⟩
  · rw [h1, h2, fieldPower_eq _ (by decide) (by decide), sub_zero]
    show _ = ((Real.rpow 2 0 : ℝ) : EReal)
    congr 1
    have : Real.rpow 2 0 = 1 := Real.rpow_zero 2
    rw [this]; norm_num
    exact zpow_zero _
  · have ht : (IntOp.addi (IntOp.subi 0#32 (BitVec.ofNat 32 k - 126#32)) 127#32).toNat = 253 - k := by
      show (0#32 - (BitVec.ofNat 32 k - 126#32) + 127#32).toNat = _
      simp only [BitVec.toNat_add, BitVec.toNat_sub, BitVec.toNat_ofNat]
      omega
    rw [h1, h2, fieldPower_eq _ (by omega) (by omega), ht, ← EReal.coe_zero, ← EReal.coe_sub]
    show _ = ((Real.rpow 2 (0 - ((k : ℝ) - 126)) : ℝ) : EReal)
    congr 1
    have : Real.rpow 2 (0 - ((k : ℝ) - 126)) = (2 : ℝ) ^ (126 - (k : ℤ) : ℤ) := by
      have := Real.rpow_intCast (2 : ℝ) (126 - (k : ℤ))
      rw [← this]; push_cast
      show (2 : ℝ) ^ (0 - ((k : ℝ) - 126)) = _
      congr 1; ring
    rw [this]
    congr 1
    omega

end Cert.KernelIdeal.Gen

end
-- ==== Proof.Entries.lean ====
module

public import proofs.«01_k».proof.Proof.Search

/-!
# The four results, one entry at a time

What every entry of the four results is, as a function of the rows of the arguments it depends on: the scale and
the codes of a row of activations, the norm of a row of the adapted weight, and an entry of the output. The
kernel and the reference are both read down to these.
-/

@[expose] public section

noncomputable section

namespace Cert.Entries

open Idealize.ShloMosaic

/-- The greatest magnitude of a row. -/
def rowMax (x : Fin 3072 → EReal) : EReal := Finset.univ.fold max ⊥ fun k => max (x k) (-(x k))

/-- The greatest magnitude over 448. -/
def ratio (x : Fin 3072 → EReal) : EReal := rowMax x * Ideal.ofBits .f32 0x3B124925#32

/-- The exponent of the row's scale. -/
def exponent (x : Fin 3072 → EReal) : EReal := Cert.KernelIdeal.Gen.refExp (ratio x)

/-- The row's scale. -/
def scale (x : Fin 3072 → EReal) : EReal := Ideal.exp2 (exponent x)

/-- One code: the entry over the scale, clipped to ±448. -/
def code (x : Fin 3072 → EReal) (k : Fin 3072) : EReal :=
  min (Ideal.ofBits .f32 0x43E00000#32) (max (Ideal.ofBits .f32 0xC3E00000#32) (x k * Ideal.exp2 (0 - exponent x)))

/-- One entry of the adapted weight. -/
def adapted (w : Fin 3072 → EReal) (s : EReal) (b : Fin 32 → EReal) (a : Fin 32 → Fin 3072 → EReal) (k : Fin 3072) : EReal :=
  w k * s + ∑ q : Fin 32, b q * a q k

/-- The norm of a row of the adapted weight. -/
def norm (w : Fin 3072 → EReal) (s : EReal) (b : Fin 32 → EReal) (a : Fin 32 → Fin 3072 → EReal) : EReal :=
  Ideal.sqrt (∑ k : Fin 3072, adapted w s b a k * adapted w s b a k)

/-- One entry of the output. -/
def out (x w : Fin 3072 → EReal) (s : EReal) (b : Fin 32 → EReal) (a : Fin 32 → Fin 3072 → EReal) (g : EReal) : EReal :=
  ((∑ k : Fin 3072, code x k * w k) * scale x * s + ∑ q : Fin 32, (∑ k : Fin 3072, x k * a q k) * b q)
    * Ideal.div g (norm w s b a)

/-- The start of a maximum over rows is the least number, in either format. -/
theorem negInf_f32 : Ideal.ofBits .f32 0xFF800000#32 = ⊥ := by
  rw [Cert.KernelIdeal.Gen.ofBits_f32]
  unfold Ideal.ieee
  rw [if_pos (by decide), if_pos (by decide), if_pos (by decide)]

theorem negInf_bf16 : Ideal.ofBits .bf16 0xFF80#16 = ⊥ := by
  show Ideal.ieee 8 7 (0xFF80#16) = ⊥
  unfold Ideal.ieee
  rw [if_pos (by decide), if_pos (by decide), if_pos (by decide)]

end Cert.Entries

end
-- ==== Proof.Quant.lean ====
module

public import proofs.«01_k».proof.Proof.Spec
public import proofs.«01_k».proof.Proof.Entries
public import Idealize.ShloMosaic.Lib.Pointwise

/-!
# A block of activations: its scales, codes and down-projection, one entry at a time
-/

@[expose] public section

set_option maxRecDepth 16384

noncomputable section

namespace Cert.KernelIdeal.Blocks

open Cert.KernelIdeal Cert.KernelIdeal.Gen Cert.Entries Idealize.ShloMosaic

/-- One step of the search for the exponent field, over a block. -/
def climbVec (r : FVec Ideal S1024x128 .f32) (f : IVec S1024x128 32) (s : BitVec 32) : IVec S1024x128 32 :=
  select (cmpf .oge r (bitcastToFloat .f32 (shli (addi f (broadcast S1024x128 s)) (broadcast S1024x128 23#32))))
    (addi f (broadcast S1024x128 s)) f

theorem climbVec_apply (r : FVec Ideal S1024x128 .f32) (f : IVec S1024x128 32) (s : BitVec 32) (i : S1024x128.Idx) :
    climbVec r f s i = climb (r i) (f i) s := (rfl)

/-- The exponent words from the fields found. -/
def wordVec (r : FVec Ideal S1024x128 .f32) (f : IVec S1024x128 32) : IVec S1024x128 32 :=
  let g := select (cmpf .oge r (broadcast S1024x128 (Scalar.ofBits .f32 0x7B800000#32))) (broadcast S1024x128 255#32) f
  select (ori (cmpi .eq g (broadcast S1024x128 0#32)) (cmpi .eq g (broadcast S1024x128 255#32))) (broadcast S1024x128 0#32)
    (subi g (broadcast S1024x128 126#32))

theorem wordVec_apply (r : FVec Ideal S1024x128 .f32) (f : IVec S1024x128 32) (i : S1024x128.Idx) (h : f i = climbAll (r i)) :
    wordVec r f i = expWord (r i) := by
  unfold expWord cutField
  rw [← h]
  rfl

/-- The kernel's first four steps of the search; -/
theorem field4_eq (x : Vec Ideal S1024x3072 .bf16) :
    k0_pay4 x = climbVec (k0_pay3 x) (climbVec (k0_pay3 x) (climbVec (k0_pay3 x) (climbVec (k0_pay3 x) (broadcast S1024x128 0#32) 128#32) 64#32) 32#32) 16#32 := by
  unfold k0_pay4
  generalize k0_pay3 x = r
  rfl

/-- its last four, and the words. -/
theorem word_eq (r : FVec Ideal S1024x128 .f32) (f : IVec S1024x128 32) :
    k0_pay7 r f (addi f (broadcast S1024x128 8#32))
        (cmpf .oge r (bitcastToFloat .f32 (shli (addi f (broadcast S1024x128 8#32)) (broadcast S1024x128 23#32))))
      = wordVec r (climbVec r (climbVec r (climbVec r (climbVec r f 8#32) 4#32) 2#32) 1#32) := rfl

/-- The greatest magnitudes of the rows. -/
def maxVec (x : FVec Ideal S1024x3072 .bf16) : FVec Ideal S1024x1 .bf16 :=
  shapeCast S1024x1 (multiReduction .maximumf [1] S1024 (absf x) 0xFF80#16 reduces_S1024x3072_S1024 (.inr rfl) rfl) shapeCasts_S1024_S1024x1

/-- Over 448, copied across the lanes. -/
def ratioVec (a : FVec Ideal S1024x1 .bf16) : FVec Ideal S1024x128 .f32 :=
  mulf (broadcastTo S1024x128 (shapeCast S1024x1 (extf .f32 a bitsLt_bf16_f32) shapeCasts_S1024x1_S1024x1) broadcasts_S1024x1_S1024x128)
    (broadcast S1024x128 (Scalar.ofBits .f32 0x3B124925#32))

theorem maxVec_apply (x : FVec Ideal S1024x3072 .bf16) (r : Fin 1024) : maxVec x (ix2 r 0) = rowMax (fun k => x (ix2 r k)) := by
  pointwise [maxVec]
  rw [negInf_bf16]
  rfl

theorem ratioVec_apply (a : FVec Ideal S1024x1 .bf16) (r : Fin 1024) (l : Fin 128) :
    ratioVec a (ix2 r l) = a (ix2 r 0) * Ideal.ofBits .f32 0x3B124925#32 := by
  pointwise [ratioVec]

/-- The greatest magnitude over 448, copied across the lanes. -/
theorem ratio_apply (x : Vec Ideal S1024x3072 .bf16) (r : Fin 1024) (l : Fin 128) :
    k0_pay3 x (ix2 r l) = ratio (fun k => x (ix2 r k)) := by
  rw [show k0_pay3 x = ratioVec (maxVec (k0_pay2 x)) from rfl, ratioVec_apply, maxVec_apply, show k0_pay2 x = x from shapeCast_self _ _, ratio]

/-- The exponent words of a block of activations. -/
def wordOf (x : Vec Ideal S1024x3072 .bf16) : IVec S1024x128 32 := k0_pay7 (k0_pay3 x) (k0_pay4 x) (k0_pay5 x) (k0_pay6 x)

theorem wordOf_apply (x : Vec Ideal S1024x3072 .bf16) (r : Fin 1024) (l : Fin 128) :
    wordOf x (ix2 r l) = expWord (ratio (fun k => x (ix2 r k))) := by
  have h : wordOf x = wordVec (k0_pay3 x) (climbVec (k0_pay3 x) (climbVec (k0_pay3 x) (climbVec (k0_pay3 x) (climbVec (k0_pay3 x) (k0_pay4 x) 8#32) 4#32) 2#32) 1#32) := by
    rw [← word_eq]; rfl
  rw [h, ← ratio_apply x r l]
  refine wordVec_apply _ _ _ ?_
  rw [field4_eq]
  generalize k0_pay3 x = v
  rw [climbVec_apply, climbVec_apply, climbVec_apply, climbVec_apply, climbVec_apply, climbVec_apply, climbVec_apply, climbVec_apply, climbAll,
    show broadcast S1024x128 (0#32) (ix2 r l) = 0#32 from rfl]

/-- A scale, from the words. -/
theorem scaleVec_apply (a : FVec Ideal S1024x128 .f32) (b c : IVec S1024x128 32) (d : IVec S1024x128 1) (i : S1024x128.Idx) :
    k0_pay8 a b c d i = fieldPower (IntOp.addi (k0_pay7 a b c d i) 127#32) := by
  unfold k0_pay8
  generalize k0_pay7 a b c d = w
  rfl

theorem scaleLanes_apply (x : Vec Ideal S1024x3072 .bf16) (r : Fin 1024) (l : Fin 128) :
    k0_pay8 (k0_pay3 x) (k0_pay4 x) (k0_pay5 x) (k0_pay6 x) (ix2 r l) = scale (fun k => x (ix2 r k)) := by
  rw [scaleVec_apply, show k0_pay7 (k0_pay3 x) (k0_pay4 x) (k0_pay5 x) (k0_pay6 x) = wordOf x from rfl, wordOf_apply, scale, exponent, ← scaleOf_eq, scaleOf]

/-- The scales, a column copied across the lanes. -/
theorem scaleCol_apply (x : Vec Ideal S1024x3072 .bf16) (r : Fin 1024) (l : Fin 128) :
    scaleCol x (ix2 r l) = scale (fun k => x (ix2 r k)) := by
  unfold scaleCol
  rw [ld_all, ← scaleLanes_apply x r l]
  generalize k0_pay8 (k0_pay3 x) (k0_pay4 x) (k0_pay5 x) (k0_pay6 x) = v
  pointwise [k0_pay11]

/-- The scales as a row. -/
theorem scaleRow_apply (x : Vec Ideal S1024x3072 .bf16) (r : Fin 1024) :
    scaleRow x (ix3 0 0 r) = scale (fun k => x (ix2 r k)) := by
  unfold scaleRow
  rw [ld_all, ← scaleLanes_apply x r 0]
  generalize k0_pay8 (k0_pay3 x) (k0_pay4 x) (k0_pay5 x) (k0_pay6 x) = v
  have hr := r.isLt
  pointwise [k0_pay12]
  split_ifs <;> exact congrArg v (congrArg (fun t => ix2 t 0) (Fin.ext (by simp only [Fin.val_mk] <;> omega)))

/-- The codes, from the words. -/
theorem codeVec_apply (x : FVec Ideal S1024x3072 .bf16) (p : IVec S1024x128 32) (r : Fin 1024) (k : Fin 3072) :
    k0_pay10 x p (ix2 r k) = min (Ideal.ofBits .f32 0x43E00000#32) (max (Ideal.ofBits .f32 0xC3E00000#32)
      (x (ix2 r k) * fieldPower (p (ix2 r 0)))) := by
  pointwise [k0_pay10]
  rfl

theorem negWord_apply (a : FVec Ideal S1024x128 .f32) (b c : IVec S1024x128 32) (d : IVec S1024x128 1) (i : S1024x128.Idx) :
    k0_pay9 a b c d i = IntOp.addi (IntOp.subi 0#32 (k0_pay7 a b c d i)) 127#32 := by
  unfold k0_pay9
  generalize k0_pay7 a b c d = w
  rfl

theorem codesOf_apply (x : Vec Ideal S1024x3072 .bf16) (r : Fin 1024) (k : Fin 3072) :
    codesOf x (ix2 r k) = code (fun k => x (ix2 r k)) k := by
  unfold codesOf
  rw [ld_all, codeVec_apply, negWord_apply, show k0_pay7 (k0_pay3 x) (k0_pay4 x) (k0_pay5 x) (k0_pay6 x) = wordOf x from rfl, wordOf_apply, code, exponent,
    ← invOf_eq, invOf, show k0_pay2 x = x from shapeCast_self _ _]

/-- The activations down-projected. -/
theorem downOf_apply (x : Vec Ideal S1024x3072 .bf16) (a : Vec Ideal S32x3072 .bf16) (r : Fin 1024) (q : Fin 32) :
    downOf x a (ix2 r q) = ∑ k : Fin 3072, x (ix2 r k) * a (ix2 q k) := by
  unfold downOf
  rw [ld_all, ld_all]
  pointwise [k0_pay67, k0_pay2]
  exact Finset.sum_congr rfl fun k _ => mul_comm _ _

end Cert.KernelIdeal.Blocks

end
-- ==== Proof.Norms.lean ====
module

public import proofs.«01_k».proof.Proof.Spec
public import proofs.«01_k».proof.Proof.Entries
public import Idealize.ShloMosaic.Lib.Pointwise

/-!
# A block of the weight: its norms and gains, one entry at a time

The body takes 256 rows of the block at a time and adds the squares of the adapted weight lane by lane: lane `l`
holds the sum over the columns congruent to `l` modulo 128, and the lanes are summed last.
-/

@[expose] public section

set_option maxRecDepth 16384

noncomputable section

namespace Cert.KernelIdeal.Blocks

open Cert.KernelIdeal Cert.KernelIdeal.Gen Cert.Entries Idealize.ShloMosaic

/-- A sum over a row, by lanes. -/
theorem lanes (f : Fin 3072 → EReal) : ∑ k : Fin 3072, f k = ∑ l : Fin 128, (
      f ⟨l.val, by omega⟩ + f ⟨128 + l.val, by omega⟩ + f ⟨256 + l.val, by omega⟩ + f ⟨384 + l.val, by omega⟩
      + f ⟨512 + l.val, by omega⟩ + f ⟨512 + (128 + l.val), by omega⟩ + f ⟨512 + (256 + l.val), by omega⟩ + f ⟨512 + (384 + l.val), by omega⟩
      + f ⟨1024 + l.val, by omega⟩ + f ⟨1024 + (128 + l.val), by omega⟩ + f ⟨1024 + (256 + l.val), by omega⟩ + f ⟨1024 + (384 + l.val), by omega⟩
      + f ⟨1536 + l.val, by omega⟩ + f ⟨1536 + (128 + l.val), by omega⟩ + f ⟨1536 + (256 + l.val), by omega⟩ + f ⟨1536 + (384 + l.val), by omega⟩
      + f ⟨2048 + l.val, by omega⟩ + f ⟨2048 + (128 + l.val), by omega⟩ + f ⟨2048 + (256 + l.val), by omega⟩ + f ⟨2048 + (384 + l.val), by omega⟩
      + f ⟨2560 + l.val, by omega⟩ + f ⟨2560 + (128 + l.val), by omega⟩ + f ⟨2560 + (256 + l.val), by omega⟩ + f ⟨2560 + (384 + l.val), by omega⟩) := by
  have e : ∑ k : Fin 3072, f k = ∑ p : Fin 24 × Fin 128, f ⟨p.2.val + 128 * p.1.val, by omega⟩ :=
    (Fintype.sum_equiv (finProdFinEquiv (m := 24) (n := 128)) _ _ fun p => rfl).symm
  rw [e, Fintype.sum_prod_type_right]
  refine Finset.sum_congr rfl fun l _ => ?_
  simp only [Fin.sum_univ_castSucc, Fin.sum_univ_zero, zero_add]
  repeat' refine congrArg₂ HAdd.hAdd ?_ ?_
  all_goals refine congrArg f (Fin.ext ?_)
  all_goals simp only [Fin.val_castSucc, Fin.val_last]
  all_goals omega

/-- The norms of rows 0 to 255. -/
theorem norm0 (w : Vec Ideal S1024x3072 .fp8e4m3) (ws : Vec Ideal S1x1024 .f32) (a : Vec Ideal S32x3072 .bf16) (b : Vec Ideal S1024x32 .bf16) (n : Fin 256) :
    chunk0 w ws a b k0_pay21 (ix2 0 n)
      = Entries.norm (fun k => w (ix2 ⟨n.val, by omega⟩ k)) (ws (ix2 0 ⟨n.val, by omega⟩)) (fun q => b (ix2 ⟨n.val, by omega⟩ q)) (fun q k => a (ix2 q k)) := by
  unfold chunk0 Entries.norm
  rw [lanes]
  pointwise [k0_pay13, k0_pay14, k0_pay15, k0_pay16, k0_pay17, k0_pay18, k0_pay19, k0_pay20, k0_pay21]
  exact congrArg Ideal.sqrt (Finset.sum_congr rfl fun l _ => rfl)

/-- The norms of rows 256 to 511. -/
theorem norm1 (w : Vec Ideal S1024x3072 .fp8e4m3) (ws : Vec Ideal S1x1024 .f32) (a : Vec Ideal S32x3072 .bf16) (b : Vec Ideal S1024x32 .bf16) (n : Fin 256) :
    chunk1 w ws a b k0_pay37 (ix2 0 n)
      = Entries.norm (fun k => w (ix2 ⟨256 + n.val, by omega⟩ k)) (ws (ix2 0 ⟨256 + n.val, by omega⟩)) (fun q => b (ix2 ⟨256 + n.val, by omega⟩ q)) (fun q k => a (ix2 q k)) := by
  unfold chunk1 Entries.norm
  rw [lanes]
  pointwise [k0_pay23, k0_pay24, k0_pay25, k0_pay26, k0_pay27, k0_pay28, k0_pay29, k0_pay30, k0_pay31, k0_pay32, k0_pay33, k0_pay34, k0_pay35, k0_pay36, k0_pay37]
  exact congrArg Ideal.sqrt (Finset.sum_congr rfl fun l _ => rfl)

/-- The norms of rows 512 to 767. -/
theorem norm2 (w : Vec Ideal S1024x3072 .fp8e4m3) (ws : Vec Ideal S1x1024 .f32) (a : Vec Ideal S32x3072 .bf16) (b : Vec Ideal S1024x32 .bf16) (n : Fin 256) :
    chunk2 w ws a b k0_pay53 (ix2 0 n)
      = Entries.norm (fun k => w (ix2 ⟨512 + n.val, by omega⟩ k)) (ws (ix2 0 ⟨512 + n.val, by omega⟩)) (fun q => b (ix2 ⟨512 + n.val, by omega⟩ q)) (fun q k => a (ix2 q k)) := by
  unfold chunk2 Entries.norm
  rw [lanes]
  pointwise [k0_pay39, k0_pay40, k0_pay41, k0_pay42, k0_pay43, k0_pay44, k0_pay45, k0_pay46, k0_pay47, k0_pay48, k0_pay49, k0_pay50, k0_pay51, k0_pay52, k0_pay53]
  exact congrArg Ideal.sqrt (Finset.sum_congr rfl fun l _ => rfl)

/-- The norms of rows 768 to 1023. -/
theorem norm3 (w : Vec Ideal S1024x3072 .fp8e4m3) (ws : Vec Ideal S1x1024 .f32) (a : Vec Ideal S32x3072 .bf16) (b : Vec Ideal S1024x32 .bf16) (n : Fin 256) :
    chunk3 w ws a b k0_pay68 (ix2 0 n)
      = Entries.norm (fun k => w (ix2 ⟨768 + n.val, by omega⟩ k)) (ws (ix2 0 ⟨768 + n.val, by omega⟩)) (fun q => b (ix2 ⟨768 + n.val, by omega⟩ q)) (fun q k => a (ix2 q k)) := by
  unfold chunk3 Entries.norm
  rw [lanes]
  pointwise [k0_pay55, k0_pay56, k0_pay57, k0_pay58, k0_pay59, k0_pay60, k0_pay61, k0_pay62, k0_pay63, k0_pay64, k0_pay65, k0_pay66, k0_pay67, k0_pay68]
  exact congrArg Ideal.sqrt (Finset.sum_congr rfl fun l _ => rfl)

end Cert.KernelIdeal.Blocks

end
-- ==== Proof.Pieces.lean ====
module

public import proofs.«01_k».proof.Proof.Norms
public import Idealize.ShloMosaic.Lib.Pointwise

/-!
# The pieces the body stores, put together: one entry of a block of norms, gains or results
-/

@[expose] public section

set_option maxRecDepth 16384

noncomputable section

namespace Cert.KernelIdeal.Blocks

open Cert.KernelIdeal Cert.KernelIdeal.Gen Cert.Entries Idealize.ShloMosaic

/-- Where a piece stored last lies, it is read. -/
theorem canon_hit {S : Shape} {e : EltTy} (r : Rect S) (w : r.shape.Idx → Elt Ideal e) (L : List (View.Piece (Elt Ideal) S e))
    (x : r.shape.Idx) (y : S.Idx) (h : r.emb x = y) : View.canon (⟨r, w⟩ :: L) y = w x := by
  subst h
  exact View.canon_cons_emb _ _ _ _

/-- Where it does not, the earlier ones are. -/
theorem canon_skip {S : Shape} {e : EltTy} (r : Rect S) (w : r.shape.Idx → Elt Ideal e) (L : List (View.Piece (Elt Ideal) S e))
    (y : S.Idx) (h : y ∉ r.set) : View.canon (⟨r, w⟩ :: L) y = View.canon L y :=
  View.canon_cons_of_not_mem _ L h

/-- An index inside a piece. -/
theorem inside (o N : ℕ) (n : Fin 1024) (h : o ≤ n.val) (h' : n.val < o + N) :
    ∃ (k : Fin N) (hk : o + k.val < 1024), n = ⟨o + k.val, hk⟩ :=
  ⟨⟨n.val - o, by omega⟩, by show o + (n.val - o) < 1024; have := n.isLt; omega, Fin.ext (by show n.val = o + (n.val - o); omega)⟩

/-- A piece of a row. -/
theorem row_emb (o : ℕ) (inb) (k : Fin 256) (h : o + k.val < 1024) :
    (Rect.unit (s := S1x1024) ![0, o] S1x256.size inb).emb (ix2 0 k) = ix2 0 ⟨o + k.val, h⟩ :=
  funext fun c => Fin.ext (by
    fin_cases c
    · rfl
    · show o + 1 * k.val = o + k.val
      omega)

theorem row_off (o : ℕ) (inb) (n : Fin 1024) (h : n.val < o) :
    (ix2 0 n : S1x1024.Idx) ∉ (Rect.unit (s := S1x1024) ![0, o] S1x256.size inb).set := by
  intro hm
  have := Rect.mem_set_unit.mp hm 1
  simp at this
  omega

/-- A norm of a weight block. -/
theorem normRow_apply (w : Vec Ideal S1024x3072 .fp8e4m3) (ws : Vec Ideal S1x1024 .f32) (a : Vec Ideal S32x3072 .bf16) (b : Vec Ideal S1024x32 .bf16) (n : Fin 1024) :
    normRow w ws a b (ix2 0 n)
      = Entries.norm (fun k => w (ix2 n k)) (ws (ix2 0 n)) (fun q => b (ix2 n q)) (fun q k => a (ix2 q k)) := by
  unfold normRow
  have hn := n.isLt
  rcases (by omega : 768 ≤ n.val ∨ (512 ≤ n.val ∧ n.val < 768) ∨ (256 ≤ n.val ∧ n.val < 512) ∨ n.val < 256) with h | h | h | h
  · obtain ⟨k, hk, rfl⟩ := inside 768 256 n (by omega) (by omega)
    rw [canon_hit _ _ _ (ix2 0 k) _ (row_emb 768 _ k hk), norm3]
  · obtain ⟨k, hk, rfl⟩ := inside 512 256 n (by omega) (by omega)
    rw [canon_skip _ _ _ _ (row_off 768 _ _ (by show 512 + k.val < 768; omega)), canon_hit _ _ _ (ix2 0 k) _ (row_emb 512 _ k hk), norm2]
  · obtain ⟨k, hk, rfl⟩ := inside 256 256 n (by omega) (by omega)
    rw [canon_skip _ _ _ _ (row_off 768 _ _ (by show 256 + k.val < 768; omega)), canon_skip _ _ _ _ (row_off 512 _ _ (by show 256 + k.val < 512; omega)), canon_hit _ _ _ (ix2 0 k) _ (row_emb 256 _ k hk), norm1]
  · obtain ⟨k, hk, rfl⟩ := inside 0 256 n (by omega) (by omega)
    rw [canon_skip _ _ _ _ (row_off 768 _ _ (by show 0 + k.val < 768; omega)), canon_skip _ _ _ _ (row_off 512 _ _ (by show 0 + k.val < 512; omega)), canon_skip _ _ _ _ (row_off 256 _ _ (by show 0 + k.val < 256; omega)), canon_hit _ _ _ (ix2 0 k) _ (row_emb 0 _ k hk), norm0]
    simp only [Nat.zero_add]

/-- A piece of a row of the gain buffer. -/
theorem gain_emb (off : Fin 3 → ℕ) (i o : ℕ) (e : off = ![i, 0, o]) (hi : i < 8) (inb) (k : Fin 256) (h : o + k.val < 1024) :
    (Rect.unit (s := S8x1x1024) off S1x1x256.size inb).emb (ix3 0 0 k) = ix3 ⟨i, hi⟩ 0 ⟨o + k.val, h⟩ := by
  subst e
  refine funext fun c => Fin.ext ?_
  fin_cases c
  · rfl
  · rfl
  · show o + 1 * k.val = o + k.val
    omega

theorem gain_off (off : Fin 3 → ℕ) (i o : ℕ) (e : off = ![i, 0, o]) (hi : i < 8) (inb) (n : Fin 1024) (h : n.val < o) :
    (ix3 ⟨i, hi⟩ 0 n : S8x1x1024.Idx) ∉ (Rect.unit (s := S8x1x1024) off S1x1x256.size inb).set := by
  subst e
  intro hm
  have := Rect.mem_set_unit.mp hm 2
  simp at this
  omega

/-- Gains, from magnitudes and norms. -/
def gainVec (g : FVec Ideal S1x256 .f32) (d : FVec Ideal S1x256 .f32) : FVec Ideal S1x1x256 .f32 :=
  shapeCast S1x1x256 (shapeCast S1x1x256 (divf (shapeCast S1x256 g shapeCasts_S1x256_S1x256) d) shapeCasts_S1x256_S1x1x256) shapeCasts_S1x1x256_S1x1x256

theorem gainVec_apply (g d : FVec Ideal S1x256 .f32) (n : Fin 256) : gainVec g d (ix3 0 0 n) = Ideal.div (g (ix2 0 n)) (d (ix2 0 n)) := by
  pointwise [gainVec]

theorem pay22_apply (v51 : Vec Ideal S256x32 .bf16) (v56 : FVec Ideal S256x128 .f32) (v196 : FVec Ideal S256x128 .f32) (v197 : Vec Ideal S32x512 .bf16) (v199 : Vec Ideal S256x512 .fp8e4m3) (g : Vec Ideal S1x256 .f32) (n : Fin 256) :
    k0_pay22 v51 v56 v196 v197 v199 g (ix3 0 0 n) = Ideal.div (g (ix2 0 n)) (k0_pay21 v51 v56 v196 v197 v199 (ix2 0 n)) := by
  have h : k0_pay22 v51 v56 v196 v197 v199 g = gainVec g (k0_pay21 v51 v56 v196 v197 v199) := rfl
  rw [h, gainVec_apply]

/-- The gains of rows 0 to 255, from their norms. -/
theorem gain0 (w : Vec Ideal S1024x3072 .fp8e4m3) (ws : Vec Ideal S1x1024 .f32) (a : Vec Ideal S32x3072 .bf16) (b : Vec Ideal S1024x32 .bf16) (g : Vec Ideal S1x256 .f32) (n : Fin 256) :
    chunk0 w ws a b (fun v51 v56 v196 v197 v199 => k0_pay22 v51 v56 v196 v197 v199 g) (ix3 0 0 n) = Ideal.div (g (ix2 0 n)) (chunk0 w ws a b k0_pay21 (ix2 0 n)) := by
  unfold chunk0
  exact pay22_apply _ _ _ _ _ g n

theorem pay38_apply (v244 : FVec Ideal S256x128 .f32) (v384 : FVec Ideal S256x128 .f32) (v386 : FVec Ideal S256x512 .f32) (v388 : FVec Ideal S256x512 .f32) (v390 : FVec Ideal S256x128 .f32) (g : Vec Ideal S1x256 .f32) (n : Fin 256) :
    k0_pay38 v244 v384 v386 v388 v390 g (ix3 0 0 n) = Ideal.div (g (ix2 0 n)) (k0_pay37 v244 v384 v386 v388 v390 (ix2 0 n)) := by
  have h : k0_pay38 v244 v384 v386 v388 v390 g = gainVec g (k0_pay37 v244 v384 v386 v388 v390) := rfl
  rw [h, gainVec_apply]

/-- The gains of rows 256 to 511, from their norms. -/
theorem gain1 (w : Vec Ideal S1024x3072 .fp8e4m3) (ws : Vec Ideal S1x1024 .f32) (a : Vec Ideal S32x3072 .bf16) (b : Vec Ideal S1024x32 .bf16) (g : Vec Ideal S1x256 .f32) (n : Fin 256) :
    chunk1 w ws a b (fun v244 v384 v386 v388 v390 => k0_pay38 v244 v384 v386 v388 v390 g) (ix3 0 0 n) = Ideal.div (g (ix2 0 n)) (chunk1 w ws a b k0_pay37 (ix2 0 n)) := by
  unfold chunk1
  exact pay38_apply _ _ _ _ _ g n

theorem pay54_apply (v432 : FVec Ideal S256x128 .f32) (v574 : FVec Ideal S256x512 .f32) (v576 : FVec Ideal S256x512 .f32) (v582 : FVec Ideal S256x128 .f32) (v586 : FVec Ideal S256x128 .f32) (g : Vec Ideal S1x256 .f32) (n : Fin 256) :
    k0_pay54 v432 v574 v576 v582 v586 g (ix3 0 0 n) = Ideal.div (g (ix2 0 n)) (k0_pay53 v432 v574 v576 v582 v586 (ix2 0 n)) := by
  have h : k0_pay54 v432 v574 v576 v582 v586 g = gainVec g (k0_pay53 v432 v574 v576 v582 v586) := rfl
  rw [h, gainVec_apply]

/-- The gains of rows 512 to 767, from their norms. -/
theorem gain2 (w : Vec Ideal S1024x3072 .fp8e4m3) (ws : Vec Ideal S1x1024 .f32) (a : Vec Ideal S32x3072 .bf16) (b : Vec Ideal S1024x32 .bf16) (g : Vec Ideal S1x256 .f32) (n : Fin 256) :
    chunk2 w ws a b (fun v432 v574 v576 v582 v586 => k0_pay54 v432 v574 v576 v582 v586 g) (ix3 0 0 n) = Ideal.div (g (ix2 0 n)) (chunk2 w ws a b k0_pay53 (ix2 0 n)) := by
  unfold chunk2
  exact pay54_apply _ _ _ _ _ g n

theorem pay69_apply (v620 : FVec Ideal S256x128 .f32) (v762 : FVec Ideal S256x512 .f32) (v764 : FVec Ideal S256x512 .f32) (v782 : FVec Ideal S256x128 .f32) (g : Vec Ideal S1x256 .f32) (n : Fin 256) :
    k0_pay69 v620 v762 v764 v782 g (ix3 0 0 n) = Ideal.div (g (ix2 0 n)) (k0_pay68 v620 v762 v764 v782 (ix2 0 n)) := by
  have h : k0_pay69 v620 v762 v764 v782 g = gainVec g (k0_pay68 v620 v762 v764 v782) := rfl
  rw [h, gainVec_apply]

/-- The gains of rows 768 to 1023, from their norms. -/
theorem gain3 (w : Vec Ideal S1024x3072 .fp8e4m3) (ws : Vec Ideal S1x1024 .f32) (a : Vec Ideal S32x3072 .bf16) (b : Vec Ideal S1024x32 .bf16) (g : Vec Ideal S1x256 .f32) (n : Fin 256) :
    chunk3 w ws a b (fun v620 v762 v764 v782 => k0_pay69 v620 v762 v764 v782 g) (ix3 0 0 n) = Ideal.div (g (ix2 0 n)) (chunk3 w ws a b k0_pay68 (ix2 0 n)) := by
  unfold chunk3
  exact pay69_apply _ _ _ _ g n

/-- A gain: the magnitude over the norm. -/
theorem gain_apply (i : grid0.Coords) (hi : (i 1).val < 8) (h : k0_cond2 i = 1#1) (w : Vec Ideal S1024x3072 .fp8e4m3) (ws : Vec Ideal S1x1024 .f32) (a : Vec Ideal S32x3072 .bf16) (b : Vec Ideal S1024x32 .bf16)
    (mg : Vec Ideal S1x1024 .f32) (n : Fin 1024) :
    View.canon (gainPieces i h w ws a b mg) (ix3 ⟨(i 1).val, hi⟩ 0 n)
      = Ideal.div (mg (ix2 0 n)) (Entries.norm (fun k => w (ix2 n k)) (ws (ix2 0 n)) (fun q => b (ix2 n q)) (fun q k => a (ix2 q k))) := by
  unfold gainPieces
  have hn := n.isLt
  rcases (by omega : 768 ≤ n.val ∨ (512 ≤ n.val ∧ n.val < 768) ∨ (256 ≤ n.val ∧ n.val < 512) ∨ n.val < 256) with h' | h' | h' | h'
  · obtain ⟨k, hk, rfl⟩ := inside 768 256 n (by omega) (by omega)
    rw [canon_hit _ _ _ (ix3 0 0 k) _ (gain_emb _ _ 768 (off4_eq i) hi _ k hk), gain3, norm3]
    pointwise []
  · obtain ⟨k, hk, rfl⟩ := inside 512 256 n (by omega) (by omega)
    rw [canon_skip _ _ _ _ (gain_off _ _ 768 (off4_eq i) hi _ _ (by show 512 + k.val < 768; omega)), canon_hit _ _ _ (ix3 0 0 k) _ (gain_emb _ _ 512 (off3_eq i) hi _ k hk), gain2, norm2]
    pointwise []
  · obtain ⟨k, hk, rfl⟩ := inside 256 256 n (by omega) (by omega)
    rw [canon_skip _ _ _ _ (gain_off _ _ 768 (off4_eq i) hi _ _ (by show 256 + k.val < 768; omega)), canon_skip _ _ _ _ (gain_off _ _ 512 (off3_eq i) hi _ _ (by show 256 + k.val < 512; omega)), canon_hit _ _ _ (ix3 0 0 k) _ (gain_emb _ _ 256 (off2_eq i) hi _ k hk), gain1, norm1]
    pointwise []
  · obtain ⟨k, hk, rfl⟩ := inside 0 256 n (by omega) (by omega)
    rw [canon_skip _ _ _ _ (gain_off _ _ 768 (off4_eq i) hi _ _ (by show 0 + k.val < 768; omega)), canon_skip _ _ _ _ (gain_off _ _ 512 (off3_eq i) hi _ _ (by show 0 + k.val < 512; omega)), canon_skip _ _ _ _ (gain_off _ _ 256 (off2_eq i) hi _ _ (by show 0 + k.val < 256; omega)), canon_hit _ _ _ (ix3 0 0 k) _ (gain_emb _ _ 0 (off1_eq i) hi _ k hk), gain0, norm0]
    pointwise []

/-- Half a block of results, of the blocks it reads. -/
theorem half0_apply (q : Vec Ideal S1024x3072 .fp8e4m3) (w : Vec Ideal S512x3072 .fp8e4m3) (t : Vec Ideal S1024x32 .bf16) (b : Vec Ideal S512x32 .bf16)
    (s : Vec Ideal S1024x128 .f32) (ws : Vec Ideal S1x512 .f32) (g : Vec Ideal S1x1x512 .f32) (r : Fin 1024) (n : Fin 512) (σ : EReal) (hs : ∀ l, s (ix2 r l) = σ) :
    k0_pay70 q w t b s ws g (ix2 r n)
      = ((∑ k : Fin 3072, q (ix2 r k) * w (ix2 n k)) * σ * ws (ix2 0 n) + ∑ x : Fin 32, t (ix2 r x) * b (ix2 n x)) * g (ix3 0 0 n) := by
  have hn := n.isLt
  pointwise [k0_pay70]
  simp only [hs, dite_eq_ite, ite_self]

theorem half1_apply (q : Vec Ideal S1024x3072 .fp8e4m3) (w : Vec Ideal S512x3072 .fp8e4m3) (t : Vec Ideal S1024x32 .bf16) (b : Vec Ideal S512x32 .bf16)
    (s : Vec Ideal S1024x128 .f32) (ws : Vec Ideal S1x512 .f32) (g : Vec Ideal S1x1x512 .f32) (r : Fin 1024) (n : Fin 512) (σ : EReal) (hs : ∀ l, s (ix2 r l) = σ) :
    k0_pay1 (k0_pay71 q) w t b s ws g (ix2 r n)
      = ((∑ k : Fin 3072, q (ix2 r k) * w (ix2 n k)) * σ * ws (ix2 0 n) + ∑ x : Fin 32, t (ix2 r x) * b (ix2 n x)) * g (ix3 0 0 n) := by
  have hn := n.isLt
  pointwise [k0_pay1, k0_pay71]
  simp only [hs, dite_eq_ite, ite_self]

theorem half_emb (o : ℕ) (inb) (r : Fin 1024) (k : Fin 512) (h : o + k.val < 1024) :
    (Rect.unit (s := S1024x1024) ![0, o] S1024x512.size inb).emb (ix2 r k) = ix2 r ⟨o + k.val, h⟩ :=
  funext fun c => Fin.ext (by
    fin_cases c
    · show 0 + 1 * r.val = r.val
      omega
    · show o + 1 * k.val = o + k.val
      omega)

theorem half_off (r n : Fin 1024) (h : n.val < 512) :
    (ix2 r n : S1024x1024.Idx) ∉ (Rect.unit (s := S1024x1024) ![0, 512] S1024x512.size inb_S1024x1024_S1024x512_0_512).set := by
  intro hm
  have := Rect.mem_set_unit.mp hm 1
  simp at this
  omega

/-- The piece of the gain buffer's row that half a block of results reads. -/
theorem gainHalf (g : Vec Ideal S8x1x1024 .f32) (off : Fin 3 → ℕ) (i o : ℕ) (e : off = ![i, 0, o]) (hi : i < 8) (inb) (k : Fin 512) (h : o + k.val < 1024) :
    View.ld g (Rect.unit (s := S8x1x1024) off S1x1x512.size inb) (ix3 0 0 k) = g (ix3 ⟨i, hi⟩ 0 ⟨o + k.val, h⟩) := by
  subst e
  refine congrArg g (funext fun c => Fin.ext ?_)
  fin_cases c
  · rfl
  · rfl
  · show o + 1 * k.val = o + k.val
    omega

/-- An entry of a block of results. -/
theorem yBlk_apply (i : grid0.Coords) (hi : (i 1).val < 8) (q w : Vec Ideal S1024x3072 .fp8e4m3) (ws : Vec Ideal S1x1024 .f32) (b : Vec Ideal S1024x32 .bf16)
    (s : Vec Ideal S1024x128 .f32) (t : Vec Ideal S1024x32 .bf16) (g : Vec Ideal S8x1x1024 .f32) (r n : Fin 1024) (σ : EReal) (hs : ∀ l, s (ix2 r l) = σ) :
    yBlk i q w ws b s t g (ix2 r n)
      = ((∑ k : Fin 3072, q (ix2 r k) * w (ix2 n k)) * σ * ws (ix2 0 n) + ∑ x : Fin 32, t (ix2 r x) * b (ix2 n x)) * g (ix3 ⟨(i 1).val, hi⟩ 0 n) := by
  unfold yBlk
  have hn := n.isLt
  rw [ld_all (X := q), ld_all (X := t), ld_all (X := s)]
  rcases (by omega : 512 ≤ n.val ∨ n.val < 512) with h | h
  · obtain ⟨k, hk, rfl⟩ := inside 512 512 n (by omega) (by omega)
    rw [canon_hit _ _ _ (ix2 r k) _ (half_emb 512 _ r k hk), half1_apply _ _ _ _ _ _ _ _ _ σ hs, gainHalf g _ _ 512 (off6_eq i) hi _ k hk]
    pointwise []
  · obtain ⟨k, hk, rfl⟩ := inside 0 512 n (by omega) (by omega)
    rw [canon_skip _ _ _ _ (half_off r _ (by show 0 + k.val < 512; omega)),
      canon_hit _ _ _ (ix2 r k) _ (half_emb 0 _ r k hk), half0_apply _ _ _ _ _ _ _ _ _ σ hs, gainHalf g _ _ 0 (off5_eq i) hi _ k hk]
    pointwise []

end Cert.KernelIdeal.Blocks

end
-- ==== Proof.Arrays.lean ====
module

public import proofs.«01_k».proof.Proof.Visit
public import proofs.«01_k».proof.Proof.Quant
public import proofs.«01_k».proof.Proof.Pieces
public import Idealize.ShloMosaic.Lib.StableHlo.Run
public import Idealize.ShloMosaic.Lib.Pipeline.Value

/-!
# What the kernel's run leaves in its four result arrays

Every block a visit stores, entry by entry, as a function of the argument arrays, and from the blocks the arrays.
The visit with number `t` stands at batch `t / 8` of the activations and at block `t % 8` of the weight.
-/

@[expose] public section

set_option maxRecDepth 16384

noncomputable section

namespace Cert.KernelIdeal.Whole

open Cert.KernelIdeal Cert.KernelIdeal.Gen Cert.KernelIdeal.Blocks Cert.Entries Idealize.ShloMosaic Idealize.ShloMosaic.TcCoe Idealize.SL.Sem
open Idealize.ShloMosaic.Pipeline (Dat)

variable (m : (ℓ : Loc nD τ sig) → Buf (Elt Ideal) ℓ)

/-! ## The argument arrays -/

abbrev acts (c : Dev nD) : Vec Ideal S6x1024x3072 .bf16 := m ((c : Thread nD τ).loc main_arg0)
abbrev weights (c : Dev nD) : Vec Ideal S8192x3072 .fp8e4m3 := m ((c : Thread nD τ).loc main_arg1)
abbrev wscales (c : Dev nD) : Vec Ideal S8192 .f32 := m ((c : Thread nD τ).loc main_arg2)
abbrev loraA (c : Dev nD) : Vec Ideal S32x3072 .bf16 := m ((c : Thread nD τ).loc main_arg3)
abbrev loraB (c : Dev nD) : Vec Ideal S8192x32 .bf16 := m ((c : Thread nD τ).loc main_arg4)
abbrev mags (c : Dev nD) : Vec Ideal S8192 .f32 := m ((c : Thread nD τ).loc main_arg5)

/-- Row `r` of batch `p` among the flattened activations. -/
def rowOf (p : Fin 6) (r : Fin 1024) : Fin 6144 := ⟨1024 * p.val + r.val, by omega⟩
/-- Row `n` of block `j` of the weight. -/
def outOf (j : Fin 8) (n : Fin 1024) : Fin 8192 := ⟨1024 * j.val + n.val, by omega⟩

theorem V_v0 (c : Dev nD) : V m c main_v0 = fun i => shapeCast S6144x3072 (acts m c) shapeCasts_S6x1024x3072_S6144x3072 i := by
  show StableHlo.after hostOps0 _ (Proc.devRef .tc main_v0) = _
  after_results
  rfl
theorem V_v1 (c : Dev nD) : V m c main_v1 = fun i => shapeCast S1x8192 (wscales m c) shapeCasts_S8192_S1x8192 i := by
  show StableHlo.after hostOps0 _ (Proc.devRef .tc main_v1) = _
  after_results
  rfl
theorem V_v2 (c : Dev nD) : V m c main_v2 = fun i => shapeCast S1x8192 (mags m c) shapeCasts_S8192_S1x8192 i := by
  show StableHlo.after hostOps0 _ (Proc.devRef .tc main_v2) = _
  after_results
  rfl

theorem flat_apply (x : Vec Ideal S6x1024x3072 .bf16) (p : Fin 6) (r : Fin 1024) (k : Fin 3072) :
    shapeCast S6144x3072 x shapeCasts_S6x1024x3072_S6144x3072 (ix2 (rowOf p r) k) = x (ix3 p r k) :=
  shapeCast_apply x shapeCasts_S6x1024x3072_S6144x3072 (ix2 (rowOf p r) k) (ix3 p r k) (by
    refine (rowMajor_val3 _ 3145728 3072 rfl rfl).trans (Eq.trans ?_ (rowMajor_val2 _ 3072 rfl).symm)
    show p.val * 3145728 + r.val * 3072 + k.val = (1024 * p.val + r.val) * 3072 + k.val
    ring)

theorem line_apply (x : Vec Ideal S8192 .f32) (n : Fin 8192) :
    shapeCast S1x8192 x shapeCasts_S8192_S1x8192 (ix2 0 n) = x (ix1 n) :=
  shapeCast_apply x shapeCasts_S8192_S1x8192 (ix2 0 n) (ix1 n) (by
    refine (rowMajor_val1 _).trans (Eq.trans ?_ (rowMajor_val2 _ 8192 rfl).symm)
    show n.val = 0 * 8192 + n.val
    omega)

/-! ## The blocks of the windows -/

theorem index0 : ∀ t : Fin cfg0.N, win0_0.index t (0 : Fin 2) = t.val / 8 ∧ win0_0.index t (1 : Fin 2) = 0 := (by decide +kernel : ∀ t : Fin grid0.N, _)
theorem index1 : ∀ t : Fin cfg0.N, win0_1.index t (0 : Fin 2) = t.val % 8 ∧ win0_1.index t (1 : Fin 2) = 0 := (by decide +kernel : ∀ t : Fin grid0.N, _)
theorem index2 : ∀ t : Fin cfg0.N, win0_2.index t (0 : Fin 2) = 0 ∧ win0_2.index t (1 : Fin 2) = t.val % 8 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = t.val % 8 ∧ win0_4.index t (1 : Fin 2) = 0 := (by decide +kernel : ∀ t : Fin grid0.N, _)
theorem index5 : ∀ t : Fin cfg0.N, win0_5.index t (0 : Fin 2) = 0 ∧ win0_5.index t (1 : Fin 2) = t.val % 8 := (by decide +kernel : ∀ t : Fin grid0.N, _)
theorem index6 : ∀ t : Fin cfg0.N, win0_6.index t (0 : Fin 2) = t.val / 8 ∧ win0_6.index t (1 : Fin 2) = t.val % 8 := (by decide +kernel : ∀ t : Fin grid0.N, _)
theorem index7 : ∀ t : Fin cfg0.N, win0_7.index t (0 : Fin 2) = 0 ∧ win0_7.index t (1 : Fin 2) = min t.val 7 := (by decide +kernel : ∀ t : Fin grid0.N, _)
theorem index8 : ∀ t : Fin cfg0.N, win0_8.index t (0 : Fin 2) = t.val / 8 ∧ win0_8.index t (1 : Fin 2) = 0 := (by decide +kernel : ∀ t : Fin grid0.N, _)
theorem index9 : ∀ t : Fin cfg0.N, win0_9.index t (0 : Fin 3) = t.val / 8 ∧ win0_9.index t (1 : Fin 3) = 0 ∧ win0_9.index t (2 : Fin 3) = 0 := (by decide +kernel : ∀ t : Fin grid0.N, _)

theorem emb0 (t : Fin cfg0.N) (p : Fin 6) (hp : p.val = t.val / 8) (r : Fin 1024) (k : Fin 3072) :
    ((cfg0.win 0).blk t).view.emb (ix2 r k) = (ix2 (rowOf p r) k : S6144x3072.Idx) := by
  obtain ⟨e0, e1⟩ := index0 t
  funext a; apply Fin.ext
  match a with
  | ⟨0, _⟩ => show win0_0.index t (0 : Fin 2) * 1024 + 1 * r.val = 1024 * p.val + r.val; omega
  | ⟨1, _⟩ => show win0_0.index t (1 : Fin 2) * 3072 + 1 * k.val = k.val; omega

theorem emb1 (t : Fin cfg0.N) (j : Fin 8) (hj : j.val = t.val % 8) (n : Fin 1024) (k : Fin 3072) :
    ((cfg0.win 1).blk t).view.emb (ix2 n k) = (ix2 (outOf j n) k : S8192x3072.Idx) := by
  obtain ⟨e0, e1⟩ := index1 t
  funext a; apply Fin.ext
  match a with
  | ⟨0, _⟩ => show win0_1.index t (0 : Fin 2) * 1024 + 1 * n.val = 1024 * j.val + n.val; omega
  | ⟨1, _⟩ => show win0_1.index t (1 : Fin 2) * 3072 + 1 * k.val = k.val; omega

theorem emb2 (t : Fin cfg0.N) (j : Fin 8) (hj : j.val = t.val % 8) (n : Fin 1024) :
    ((cfg0.win 2).blk t).view.emb (ix2 0 n) = (ix2 0 (outOf j n) : S1x8192.Idx) := by
  obtain ⟨e0, e1⟩ := index2 t
  funext a; apply Fin.ext
  match a with
  | ⟨0, _⟩ => show win0_2.index t (0 : Fin 2) * 1 + 1 * 0 = 0; omega
  | ⟨1, _⟩ => show win0_2.index t (1 : Fin 2) * 1024 + 1 * n.val = 1024 * j.val + n.val; omega

theorem emb3 (t : Fin cfg0.N) (q : Fin 32) (k : Fin 3072) :
    ((cfg0.win 3).blk t).view.emb (ix2 q k) = (ix2 q k : S32x3072.Idx) := by
  obtain ⟨e0, e1⟩ := index3 t
  funext a; apply Fin.ext
  match a with
  | ⟨0, _⟩ => show win0_3.index t (0 : Fin 2) * 32 + 1 * q.val = q.val; omega
  | ⟨1, _⟩ => show win0_3.index t (1 : Fin 2) * 3072 + 1 * k.val = k.val; omega

theorem emb4 (t : Fin cfg0.N) (j : Fin 8) (hj : j.val = t.val % 8) (n : Fin 1024) (q : Fin 32) :
    ((cfg0.win 4).blk t).view.emb (ix2 n q) = (ix2 (outOf j n) q : S8192x32.Idx) := by
  obtain ⟨e0, e1⟩ := index4 t
  funext a; apply Fin.ext
  match a with
  | ⟨0, _⟩ => show win0_4.index t (0 : Fin 2) * 1024 + 1 * n.val = 1024 * j.val + n.val; omega
  | ⟨1, _⟩ => show win0_4.index t (1 : Fin 2) * 32 + 1 * q.val = q.val; omega

theorem emb5 (t : Fin cfg0.N) (j : Fin 8) (hj : j.val = t.val % 8) (n : Fin 1024) :
    ((cfg0.win 5).blk t).view.emb (ix2 0 n) = (ix2 0 (outOf j n) : S1x8192.Idx) := by
  obtain ⟨e0, e1⟩ := index5 t
  funext a; apply Fin.ext
  match a with
  | ⟨0, _⟩ => show win0_5.index t (0 : Fin 2) * 1 + 1 * 0 = 0; omega
  | ⟨1, _⟩ => show win0_5.index t (1 : Fin 2) * 1024 + 1 * n.val = 1024 * j.val + n.val; omega

theorem emb6 (t : Fin cfg0.N) (p : Fin 6) (hp : p.val = t.val / 8) (j : Fin 8) (hj : j.val = t.val % 8) (r n : Fin 1024) :
    ((cfg0.win 6).blk t).view.emb (ix2 r n) = (ix2 (rowOf p r) (outOf j n) : S6144x8192.Idx) := by
  obtain ⟨e0, e1⟩ := index6 t
  funext a; apply Fin.ext
  match a with
  | ⟨0, _⟩ => show win0_6.index t (0 : Fin 2) * 1024 + 1 * r.val = 1024 * p.val + r.val; omega
  | ⟨1, _⟩ => show win0_6.index t (1 : Fin 2) * 1024 + 1 * n.val = 1024 * j.val + n.val; omega

theorem emb7 (t : Fin cfg0.N) (j : Fin 8) (hj : j.val = min t.val 7) (n : Fin 1024) :
    ((cfg0.win 7).blk t).view.emb (ix2 0 n) = (ix2 0 (outOf j n) : S1x8192.Idx) := by
  obtain ⟨e0, e1⟩ := index7 t
  funext a; apply Fin.ext
  match a with
  | ⟨0, _⟩ => show win0_7.index t (0 : Fin 2) * 1 + 1 * 0 = 0; omega
  | ⟨1, _⟩ => show win0_7.index t (1 : Fin 2) * 1024 + 1 * n.val = 1024 * j.val + n.val; omega

theorem emb8 (t : Fin cfg0.N) (p : Fin 6) (hp : p.val = t.val / 8) (r : Fin 1024) (k : Fin 3072) :
    ((cfg0.win 8).blk t).view.emb (ix2 r k) = (ix2 (rowOf p r) k : S6144x3072.Idx) := by
  obtain ⟨e0, e1⟩ := index8 t
  funext a; apply Fin.ext
  match a with
  | ⟨0, _⟩ => show win0_8.index t (0 : Fin 2) * 1024 + 1 * r.val = 1024 * p.val + r.val; omega
  | ⟨1, _⟩ => show win0_8.index t (1 : Fin 2) * 3072 + 1 * k.val = k.val; omega

theorem emb9 (t : Fin cfg0.N) (p : Fin 6) (hp : p.val = t.val / 8) (r : Fin 1024) :
    ((cfg0.win 9).blk t).view.emb (ix3 0 0 r) = (ix3 p 0 r : S6x1x1024.Idx) := by
  obtain ⟨e0, e1, e2⟩ := index9 t
  funext a; apply Fin.ext
  match a with
  | ⟨0, _⟩ => show win0_9.index t (0 : Fin 3) * 1 + 1 * 0 = p.val; omega
  | ⟨1, _⟩ => show win0_9.index t (1 : Fin 3) * 1 + 1 * 0 = 0; omega
  | ⟨2, _⟩ => show win0_9.index t (2 : Fin 3) * 1024 + 1 * r.val = r.val; omega

theorem blk0 (c : Dev nD) (t : Fin cfg0.N) (p : Fin 6) (hp : p.val = t.val / 8) (r : Fin 1024) (k : Fin 3072) :
    (iblk m c 0 t : Vec Ideal S1024x3072 .bf16) (ix2 r k) = acts m c (ix3 p r k) := by
  show V m c main_v0 (((cfg0.win 0).blk t).view.emb (ix2 r k)) = _
  rw [emb0 t p hp, V_v0]
  exact flat_apply _ p r k

theorem blk1 (c : Dev nD) (t : Fin cfg0.N) (j : Fin 8) (hj : j.val = t.val % 8) (n : Fin 1024) (k : Fin 3072) :
    (iblk m c 1 t : Vec Ideal S1024x3072 .fp8e4m3) (ix2 n k) = weights m c (ix2 (outOf j n) k) := by
  show V m c main_arg1 (((cfg0.win 1).blk t).view.emb (ix2 n k)) = _
  rw [emb1 t j hj, V_main_arg1]

theorem blk2 (c : Dev nD) (t : Fin cfg0.N) (j : Fin 8) (hj : j.val = t.val % 8) (n : Fin 1024) :
    (iblk m c 2 t : Vec Ideal S1x1024 .f32) (ix2 0 n) = wscales m c (ix1 (outOf j n)) := by
  show V m c main_v1 (((cfg0.win 2).blk t).view.emb (ix2 0 n)) = _
  rw [emb2 t j hj, V_v1]
  exact line_apply _ _

theorem blk3 (c : Dev nD) (t : Fin cfg0.N) (q : Fin 32) (k : Fin 3072) :
    (iblk m c 3 t : Vec Ideal S32x3072 .bf16) (ix2 q k) = loraA m c (ix2 q k) := by
  show V m c main_arg3 (((cfg0.win 3).blk t).view.emb (ix2 q k)) = _
  rw [emb3 t, V_main_arg3]

theorem blk4 (c : Dev nD) (t : Fin cfg0.N) (j : Fin 8) (hj : j.val = t.val % 8) (n : Fin 1024) (q : Fin 32) :
    (iblk m c 4 t : Vec Ideal S1024x32 .bf16) (ix2 n q) = loraB m c (ix2 (outOf j n) q) := by
  show V m c main_arg4 (((cfg0.win 4).blk t).view.emb (ix2 n q)) = _
  rw [emb4 t j hj, V_main_arg4]

theorem blk5 (c : Dev nD) (t : Fin cfg0.N) (j : Fin 8) (hj : j.val = t.val % 8) (n : Fin 1024) :
    (iblk m c 5 t : Vec Ideal S1x1024 .f32) (ix2 0 n) = mags m c (ix1 (outOf j n)) := by
  show V m c main_v2 (((cfg0.win 5).blk t).view.emb (ix2 0 n)) = _
  rw [emb5 t j hj, V_v2]
  exact line_apply _ _

/-! ## What a visit stores, entry by entry -/

/-- The row of activations, the row of the weight, and the norm that an entry depends on. -/
abbrev actRow (c : Dev nD) (p : Fin 6) (r : Fin 1024) : Fin 3072 → EReal := fun k => acts m c (ix3 p r k)
abbrev normOf (c : Dev nD) (n : Fin 8192) : EReal :=
  Entries.norm (fun k => weights m c (ix2 n k)) (wscales m c (ix1 n)) (fun q => loraB m c (ix2 n q)) (fun q k => loraA m c (ix2 q k))

theorem start_val (t : Fin cfg0.N) (p : Fin 6) (hp : p.val = t.val / 8) : p.val = (rowStart t).val / 8 := by
  show p.val = t.val / 8 * 8 / 8
  omega

theorem codesAt_apply (c : Dev nD) (t : Fin cfg0.N) (p : Fin 6) (hp : p.val = t.val / 8) (r : Fin 1024) (k : Fin 3072) :
    codesAt m c t (ix2 r k) = code (actRow m c p r) k := by
  unfold codesAt
  rw [codesOf_apply]
  exact congrArg (fun f => code f k) (funext fun k => blk0 m c _ p (start_val t p hp) r k)

theorem scaleColAt_apply (c : Dev nD) (t : Fin cfg0.N) (p : Fin 6) (hp : p.val = t.val / 8) (r : Fin 1024) (l : Fin 128) :
    scaleColAt m c t (ix2 r l) = scale (actRow m c p r) := by
  unfold scaleColAt
  rw [scaleCol_apply]
  exact congrArg scale (funext fun k => blk0 m c _ p (start_val t p hp) r k)

theorem scaleRowAt_apply (c : Dev nD) (t : Fin cfg0.N) (p : Fin 6) (hp : p.val = t.val / 8) (r : Fin 1024) :
    scaleRowAt m c t (ix3 0 0 r) = scale (actRow m c p r) := by
  unfold scaleRowAt
  rw [scaleRow_apply]
  exact congrArg scale (funext fun k => blk0 m c _ p (start_val t p hp) r k)

theorem downAt_apply (c : Dev nD) (t : Fin cfg0.N) (p : Fin 6) (hp : p.val = t.val / 8) (r : Fin 1024) (q : Fin 32) :
    downAt m c t (ix2 r q) = ∑ k : Fin 3072, actRow m c p r k * loraA m c (ix2 q k) := by
  unfold downAt
  rw [downOf_apply]
  exact Finset.sum_congr rfl fun k _ => congrArg₂ HMul.hMul (blk0 m c _ p (start_val t p hp) r k) (blk3 m c _ q k)

/-- The norm of a row of a weight block is that of the array's row. -/
theorem norm_blk (c : Dev nD) (t : Fin cfg0.N) (j : Fin 8) (hj : j.val = t.val % 8) (n : Fin 1024) :
    Entries.norm (fun k => (iblk m c 1 t : Vec Ideal S1024x3072 .fp8e4m3) (ix2 n k)) ((iblk m c 2 t : Vec Ideal S1x1024 .f32) (ix2 0 n))
        (fun q => (iblk m c 4 t : Vec Ideal S1024x32 .bf16) (ix2 n q)) (fun q k => (iblk m c 3 t : Vec Ideal S32x3072 .bf16) (ix2 q k))
      = normOf m c (outOf j n) := by
  rw [blk2 m c t j hj, funext fun k => blk1 m c t j hj n k, funext fun q => blk4 m c t j hj n q, funext fun q => funext fun k => blk3 m c t q k]

theorem normAt_apply (c : Dev nD) (t : Fin cfg0.N) (j : Fin 8) (hj : j.val = min t.val 7) (n : Fin 1024) :
    normAt m c t (ix2 0 n) = normOf m c (outOf j n) := by
  unfold normAt
  rw [normRow_apply]
  exact norm_blk m c _ j (by show j.val = min t.val 7 % 8; omega) n

theorem gains_apply (c : Dev nD) (j : Fin 8) (n : Fin 1024) :
    gains m c (ix3 j 0 n) = Ideal.div (mags m c (ix1 (outOf j n))) (normOf m c (outOf j n)) := by
  unfold gains gainAt
  have hv : (gainVisit (ix3 j 0 n)).val = j.val := rfl
  have hc : ((grid0.coords (gainVisit (ix3 j 0 n))) 1).val = j.val := by rw [col_val, hv]; omega
  have hj : j.val = (gainVisit (ix3 j 0 n)).val % 8 := by rw [hv]; omega
  have e := gain_apply (grid0.coords (gainVisit (ix3 j 0 n))) (by omega) (gainVisit_cond (ix3 j 0 n)) (iblk m c 1 (gainVisit (ix3 j 0 n)))
    (iblk m c 2 (gainVisit (ix3 j 0 n))) (iblk m c 3 (gainVisit (ix3 j 0 n))) (iblk m c 4 (gainVisit (ix3 j 0 n))) (iblk m c 5 (gainVisit (ix3 j 0 n))) n
  rw [norm_blk m c _ j hj, blk5 m c _ j hj] at e
  rw [← e]
  exact congrArg _ (congrArg (fun t => ix3 t 0 n) (Fin.ext hc.symm))

theorem yAt_apply (c : Dev nD) (t : Fin cfg0.N) (p : Fin 6) (hp : p.val = t.val / 8) (j : Fin 8) (hj : j.val = t.val % 8) (r n : Fin 1024) :
    yAt m c t (ix2 r n)
      = out (actRow m c p r) (fun k => weights m c (ix2 (outOf j n) k)) (wscales m c (ix1 (outOf j n))) (fun q => loraB m c (ix2 (outOf j n) q))
          (fun q k => loraA m c (ix2 q k)) (mags m c (ix1 (outOf j n))) := by
  have hc : ((grid0.coords t) 1).val = j.val := by rw [col_val]; omega
  have hi : ((grid0.coords t) 1).val < 8 := by omega
  unfold yAt
  rw [yBlk_apply (grid0.coords t) hi _ _ _ _ _ _ _ r n (scale (actRow m c p r)) (fun l => scaleColAt_apply m c t p hp r l), blk2 m c t j hj,
    show (ix3 ⟨((grid0.coords t) 1).val, hi⟩ 0 n : S8x1x1024.Idx) = ix3 j 0 n from congrArg (fun t => ix3 t 0 n) (Fin.ext hc), gains_apply, out]
  refine congrArg (· * _) (congrArg₂ HAdd.hAdd (congrArg (· * _) (congrArg (· * _) ?_)) ?_)
  · exact Finset.sum_congr rfl fun k _ => congrArg₂ HMul.hMul (codesAt_apply m c t p hp r k) (blk1 m c t j hj n k)
  · exact Finset.sum_congr rfl fun q _ => congrArg₂ HMul.hMul (downAt_apply m c t p hp r q) (blk4 m c t j hj n q)

end Cert.KernelIdeal.Whole

end
-- ==== Proof.Final.lean ====
module

public import proofs.«01_k».proof.Proof.Arrays

/-!
# The result arrays after the run

Each result array, pinned by its blocks: what a visit writes back is the block of the array it stands at, and the
blocks of the visits that write back cover the array.
-/

@[expose] public section

set_option maxRecDepth 16384

noncomputable section

namespace Cert.KernelIdeal.Whole

open Cert.KernelIdeal Cert.KernelIdeal.Gen Cert.KernelIdeal.Blocks Cert.Entries Idealize.ShloMosaic Idealize.ShloMosaic.TcCoe Idealize.SL.Sem
open Idealize.ShloMosaic.Pipeline (Dat)

variable (m : (ℓ : Loc nD τ sig) → Buf (Elt Ideal) ℓ)

theorem visits_lt (t : Fin cfg0.N) : t.val < 48 := lt_of_lt_of_eq t.isLt N_0

/-- The visit at batch `p` and weight block `j`. -/
def visitAt (p : Fin 6) (j : Fin 8) : Fin cfg0.N := ⟨8 * p.val + j.val, by rw [show cfg0.N = 48 from N_0]; omega⟩

theorem visitAt_div (p : Fin 6) (j : Fin 8) : p.val = (visitAt p j).val / 8 := by
  show p.val = (8 * p.val + j.val) / 8; omega
theorem visitAt_mod (p : Fin 6) (j : Fin 8) : j.val = (visitAt p j).val % 8 := by
  show j.val = (8 * p.val + j.val) % 8; omega

theorem flush6 : ∀ t : Fin cfg0.N, (cfg0.win 6).flush t = true := (by decide +kernel : ∀ t : Fin grid0.N, _)
theorem flush7 : ∀ j : Fin 7, (cfg0.win 7).flush (visitAt 0 j.castSucc) = true := by decide +kernel
theorem flush7_last : (cfg0.win 7).flush (visitAt 5 7) = true := by decide +kernel
theorem flush8 : ∀ p : Fin 6, (cfg0.win 8).flush (visitAt p 7) = true := by decide +kernel
theorem flush9 : ∀ p : Fin 6, (cfg0.win 9).flush (visitAt p 7) = true := by decide +kernel

theorem row_split (i : Fin 6144) : ∃ p r, i = rowOf p r :=
  ⟨⟨i.val / 1024, by omega⟩, ⟨i.val % 1024, by omega⟩, Fin.ext (by show i.val = 1024 * (i.val / 1024) + i.val % 1024; omega)⟩
theorem out_split (i : Fin 8192) : ∃ j n, i = outOf j n :=
  ⟨⟨i.val / 1024, by omega⟩, ⟨i.val % 1024, by omega⟩, Fin.ext (by show i.val = 1024 * (i.val / 1024) + i.val % 1024; omega)⟩

theorem ix2_split {a b : Nat} (i : Idealize.ShloMosaic.Shape.Idx ⟨2, ![a, b]⟩) : ∃ (x : Fin a) (y : Fin b), i = ix2 x y :=
  ⟨i 0, i 1, funext fun d => match d with | ⟨0, _⟩ => rfl | ⟨1, _⟩ => rfl⟩

/-- The result `y`. -/
theorem final6 (c : Dev nD) (G : Vec Ideal S6144x8192 .bf16)
    (h : ∀ p r n, G (ix2 (rowOf p r) n) = out (actRow m c p r) (fun k => weights m c (ix2 n k)) (wscales m c (ix1 n))
      (fun q => loraB m c (ix2 n q)) (fun q k => loraA m c (ix2 q k)) (mags m c (ix1 n))) :
    (dats m 0 c).arrAt 6 cfg0.N = G := by
  refine (dats m 0 c).arrAt_eq_of_cover 6 G (fun t _ => ?_) (fun i => ?_)
  · show (cfg0.win 6).cut (grid0.coords t) ((dats m 0 c).after 6 t) = _
    rw [after_6]
    have ht := visits_lt t
    funext y
    obtain ⟨r, n, rfl⟩ : ∃ r n : Fin 1024, y = ix2 r n := ix2_split y
    show yAt m c t (ix2 r n) = G (((cfg0.win 6).blk t).view.emb (ix2 r n))
    rw [emb6 t ⟨t.val / 8, by omega⟩ rfl ⟨t.val % 8, by omega⟩ rfl, h]
    exact yAt_apply m c t _ rfl _ rfl r n
  · obtain ⟨a, b, rfl⟩ : ∃ (a : Fin 6144) (b : Fin 8192), i = ix2 a b := ix2_split i
    obtain ⟨p, r, rfl⟩ := row_split a
    obtain ⟨j, n, rfl⟩ := out_split b
    refine ⟨visitAt p j, flush6 _, ?_⟩
    rw [← emb6 (visitAt p j) p (visitAt_div p j) j (visitAt_mod p j) r n]
    exact View.emb_mem_set _ _

/-- The result `col_norm`. -/
theorem final7 (c : Dev nD) (G : Vec Ideal S1x8192 .f32) (h : ∀ n, G (ix2 0 n) = normOf m c n) :
    (dats m 0 c).arrAt 7 cfg0.N = G := by
  refine (dats m 0 c).arrAt_eq_of_cover 7 G (fun t _ => ?_) (fun i => ?_)
  · show (cfg0.win 7).cut (grid0.coords t) ((dats m 0 c).after 7 t) = _
    rw [after_7]
    funext y
    obtain ⟨z, n, rfl⟩ : ∃ (z : Fin 1) (n : Fin 1024), y = ix2 z n := ix2_split y
    obtain rfl : z = 0 := Subsingleton.elim _ _
    show normAt m c t (ix2 0 n) = G (((cfg0.win 7).blk t).view.emb (ix2 0 n))
    rw [emb7 t ⟨min t.val 7, by omega⟩ rfl, h]
    exact normAt_apply m c t _ rfl n
  · obtain ⟨z, b, rfl⟩ : ∃ (z : Fin 1) (b : Fin 8192), i = ix2 z b := ix2_split i
    obtain rfl : z = 0 := Subsingleton.elim _ _
    obtain ⟨j, n, rfl⟩ := out_split b
    by_cases hj : j.val < 7
    · refine ⟨visitAt 0 j, flush7 ⟨j.val, hj⟩, ?_⟩
      rw [← emb7 (visitAt 0 j) j (by show j.val = min (8 * 0 + j.val) 7; omega) n]
      exact View.emb_mem_set _ _
    · refine ⟨visitAt 5 7, flush7_last, ?_⟩
      rw [← emb7 (visitAt 5 7) j (by show j.val = min (8 * 5 + 7) 7; omega) n]
      exact View.emb_mem_set _ _

/-- The result `codes`. -/
theorem final8 (c : Dev nD) (G : Vec Ideal S6144x3072 .fp8e4m3) (h : ∀ p r k, G (ix2 (rowOf p r) k) = code (actRow m c p r) k) :
    (dats m 0 c).arrAt 8 cfg0.N = G := by
  refine (dats m 0 c).arrAt_eq_of_cover 8 G (fun t _ => ?_) (fun i => ?_)
  · show (cfg0.win 8).cut (grid0.coords t) ((dats m 0 c).after 8 t) = _
    rw [after_8]
    have ht := visits_lt t
    funext y
    obtain ⟨r, k, rfl⟩ : ∃ (r : Fin 1024) (k : Fin 3072), y = ix2 r k := ix2_split y
    show codesAt m c t (ix2 r k) = G (((cfg0.win 8).blk t).view.emb (ix2 r k))
    rw [emb8 t ⟨t.val / 8, by omega⟩ rfl, h]
    exact codesAt_apply m c t _ rfl r k
  · obtain ⟨a, k, rfl⟩ : ∃ (a : Fin 6144) (k : Fin 3072), i = ix2 a k := ix2_split i
    obtain ⟨p, r, rfl⟩ := row_split a
    refine ⟨visitAt p 7, flush8 p, ?_⟩
    rw [← emb8 (visitAt p 7) p (visitAt_div p 7) r k]
    exact View.emb_mem_set _ _

/-- The result `xs`. -/
theorem final9 (c : Dev nD) (G : Vec Ideal S6x1x1024 .f32) (h : ∀ p r, G (ix3 p 0 r) = scale (actRow m c p r)) :
    (dats m 0 c).arrAt 9 cfg0.N = G := by
  refine (dats m 0 c).arrAt_eq_of_cover 9 G (fun t _ => ?_) (fun i => ?_)
  · show (cfg0.win 9).cut (grid0.coords t) ((dats m 0 c).after 9 t) = _
    rw [after_9]
    have ht := visits_lt t
    funext y
    obtain ⟨r, rfl⟩ : ∃ r : Fin 1024, y = ix3 0 0 r :=
      ⟨y 2, funext fun d => match d with | ⟨0, _⟩ => Subsingleton.elim (α := Fin 1) _ _ | ⟨1, _⟩ => Subsingleton.elim (α := Fin 1) _ _ | ⟨2, _⟩ => rfl⟩
    show scaleRowAt m c t (ix3 0 0 r) = G (((cfg0.win 9).blk t).view.emb (ix3 0 0 r))
    rw [emb9 t ⟨t.val / 8, by omega⟩ rfl, h]
    exact scaleRowAt_apply m c t _ rfl r
  · obtain ⟨p, r, rfl⟩ : ∃ (p : Fin 6) (r : Fin 1024), i = ix3 p 0 r :=
      ⟨i 0, i 2, funext fun d => match d with | ⟨0, _⟩ => rfl | ⟨1, _⟩ => Subsingleton.elim (α := Fin 1) _ _ | ⟨2, _⟩ => rfl⟩
    refine ⟨visitAt p 7, flush9 p, ?_⟩
    rw [← emb9 (visitAt p 7) p (visitAt_div p 7) r]
    exact View.emb_mem_set _ _

variable (ρ : Dev nD → PrngReg)

/-- The run of the kernel: its results are any arrays with these entries, its arguments end unchanged. -/
theorem run (G6 : Dev nD → Vec Ideal S6144x8192 .bf16) (G7 : Dev nD → Vec Ideal S1x8192 .f32)
    (G8 : Dev nD → Vec Ideal S6144x3072 .fp8e4m3) (G9 : Dev nD → Vec Ideal S6x1x1024 .f32)
    (h6 : ∀ c p r n, G6 c (ix2 (rowOf p r) n) = out (actRow m c p r) (fun k => weights m c (ix2 n k)) (wscales m c (ix1 n))
      (fun q => loraB m c (ix2 n q)) (fun q k => loraA m c (ix2 q k)) (mags m c (ix1 n)))
    (h7 : ∀ c n, G7 c (ix2 0 n) = normOf m c n)
    (h8 : ∀ c p r k, G8 c (ix2 (rowOf p r) k) = code (actRow m c p r) k)
    (h9 : ∀ c p r, G9 c (ix3 p 0 r) = scale (actRow m c p r)) :
    θ_run defs (onTc (τ := τ) (main (F := Ideal))) ⟨m, fun _ => 0, ρ⟩ (fun r => ∀ c : Dev nD,
      r.2.mem ((c.tc : Thread nD τ).loc main_v3_0) = G6 c
      ∧ r.2.mem ((c.tc : Thread nD τ).loc main_v3_1) = G7 c
      ∧ r.2.mem ((c.tc : Thread nD τ).loc main_v3_2) = G8 c
      ∧ r.2.mem ((c.tc : Thread nD τ).loc main_v3_3) = G9 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (final6 m c _ (h6 c)), ((h.1 c).1 7).trans (final7 m c _ (h7 c)),
      ((h.1 c).1 8).trans (final8 m c _ (h8 c)), ((h.1 c).1 9).trans (final9 m c _ (h9 c)), h.2 c⟩)
    (θ_run_and (run_main m ρ) (frame_of m ρ (dats m) (A_eq m) (run_main m ρ)))

end Cert.KernelIdeal.Whole

end
-- ==== Proof.RefRun.lean ====
module

public import proofs.«01_k».proof.Proof.Gen.ReferenceIdeal.Frame
public import Idealize.ShloMosaic.Lib.Pipeline.Value

/-!
# What the reference's run leaves

The reference has one grid point and every window's block is its whole array, so each result is the body's
payload at the argument arrays.
-/

@[expose] public section

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S6x1024x3072.Idx) : ((cfg0.win 0).blk t).view.emb j = j := by
  obtain ⟨e0, e1, e2⟩ := idx_zero0 t
  funext a; apply Fin.ext
  match a with
  | ⟨0, _⟩ => show win0_0.index t (0 : Fin 3) * 6 + 1 * (j 0).val = (j 0).val; omega
  | ⟨1, _⟩ => show win0_0.index t (1 : Fin 3) * 1024 + 1 * (j 1).val = (j 1).val; omega
  | ⟨2, _⟩ => show win0_0.index t (2 : Fin 3) * 3072 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S8192x3072.Idx) : ((cfg0.win 1).blk t).view.emb j = j := by
  obtain ⟨e0, e1⟩ := idx_zero1 t
  funext a; apply Fin.ext
  match a with
  | ⟨0, _⟩ => show win0_1.index t (0 : Fin 2) * 8192 + 1 * (j 0).val = (j 0).val; omega
  | ⟨1, _⟩ => show win0_1.index t (1 : Fin 2) * 3072 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S8192.Idx) : ((cfg0.win 2).blk t).view.emb j = j := by
  have e0 := idx_zero2 t
  funext a; apply Fin.ext
  match a with
  | ⟨0, _⟩ => show win0_2.index t (0 : Fin 1) * 8192 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S32x3072.Idx) : ((cfg0.win 3).blk t).view.emb j = j := by
  obtain ⟨e0, e1⟩ := idx_zero3 t
  funext a; apply Fin.ext
  match a with
  | ⟨0, _⟩ => show win0_3.index t (0 : Fin 2) * 32 + 1 * (j 0).val = (j 0).val; omega
  | ⟨1, _⟩ => show win0_3.index t (1 : Fin 2) * 3072 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S8192x32.Idx) : ((cfg0.win 4).blk t).view.emb j = j := by
  obtain ⟨e0, e1⟩ := idx_zero4 t
  funext a; apply Fin.ext
  match a with
  | ⟨0, _⟩ => show win0_4.index t (0 : Fin 2) * 8192 + 1 * (j 0).val = (j 0).val; omega
  | ⟨1, _⟩ => show win0_4.index t (1 : Fin 2) * 32 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S8192.Idx) : ((cfg0.win 5).blk t).view.emb j = j := by
  have e0 := idx_zero5 t
  funext a; apply Fin.ext
  match a with
  | ⟨0, _⟩ => show win0_5.index t (0 : Fin 1) * 8192 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S6144x8192.Idx) : ((cfg0.win 6).blk t).view.emb j = j := by
  obtain ⟨e0, e1⟩ := idx_zero6 t
  funext a; apply Fin.ext
  match a with
  | ⟨0, _⟩ => show win0_6.index t (0 : Fin 2) * 6144 + 1 * (j 0).val = (j 0).val; omega
  | ⟨1, _⟩ => show win0_6.index t (1 : Fin 2) * 8192 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S1x8192.Idx) : ((cfg0.win 7).blk t).view.emb j = j := by
  obtain ⟨e0, e1⟩ := idx_zero7 t
  funext a; apply Fin.ext
  match a with
  | ⟨0, _⟩ => show win0_7.index t (0 : Fin 2) * 1 + 1 * (j 0).val = (j 0).val; omega
  | ⟨1, _⟩ => show win0_7.index t (1 : Fin 2) * 8192 + 1 * (j 1).val = (j 1).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S6144x3072.Idx) : ((cfg0.win 8).blk t).view.emb j = j := by
  obtain ⟨e0, e1⟩ := idx_zero8 t
  funext a; apply Fin.ext
  match a with
  | ⟨0, _⟩ => show win0_8.index t (0 : Fin 2) * 6144 + 1 * (j 0).val = (j 0).val; omega
  | ⟨1, _⟩ => show win0_8.index t (1 : Fin 2) * 3072 + 1 * (j 1).val = (j 1).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S6x1x1024.Idx) : ((cfg0.win 9).blk t).view.emb j = j := by
  obtain ⟨e0, e1, e2⟩ := idx_zero9 t
  funext a; apply Fin.ext
  match a with
  | ⟨0, _⟩ => show win0_9.index t (0 : Fin 3) * 6 + 1 * (j 0).val = (j 0).val; omega
  | ⟨1, _⟩ => show win0_9.index t (1 : Fin 3) * 1 + 1 * (j 1).val = (j 1).val; omega
  | ⟨2, _⟩ => show win0_9.index t (2 : Fin 3) * 1024 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S6x1024x3072 .bf16) (a1 : Vec F S8192x3072 .fp8e4m3) (a2 : Vec F S8192 .f32) (a3 : Vec F S32x3072 .bf16) (a4 : Vec F S8192x32 .bf16) (a5 : Vec F S8192 .f32) : Vec F S6144x8192 .bf16 :=
  k0_pay2 (k0_pay5 a0) a1 a3 a4 a2 a5 (k0_pay11 a0 a1 a2 a3 a4 a5) (k0_pay12 a0 a1 a2 a3 a4 a5) (k0_pay10 a0 a1 a2 a3 a4 a5)

/-- A load of the whole of a block reads the block, and the one store through the whole rectangle leaves its payload. -/
theorem out6_eq (a0 : Vec F S6x1024x3072 .bf16) (a1 : Vec F S8192x3072 .fp8e4m3) (a2 : Vec F S8192 .f32) (a3 : Vec F S32x3072 .bf16) (a4 : Vec F S8192x32 .bf16) (a5 : Vec F S8192 .f32) : out0_6 (F := F) a0 a1 a2 a3 a4 a5 = G6 a0 a1 a2 a3 a4 a5 := by
  unfold out0_6
  rw [View.canon_unit_zero hz6, View.ld_unit_zero (S := S6x1024x3072) hz0 _ a0, View.ld_unit_zero (S := S8192x3072) hz1 _ a1, View.ld_unit_zero (S := S32x3072) hz3 _ a3, View.ld_unit_zero (S := S8192x32) hz4 _ a4, View.ld_unit_zero (S := S8192) hz2 _ a2, View.ld_unit_zero (S := S8192) hz5 _ a5]

/-- Cutting the point's block out of `X` and reading `X` through the block's view give the same. -/
theorem cut6_eq (t : Fin cfg0.N) (X : Vec F S6144x8192 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S6144x8192.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S6x1024x3072 .bf16) (a1 : Vec F S8192x3072 .fp8e4m3) (a2 : Vec F S8192 .f32) (a3 : Vec F S32x3072 .bf16) (a4 : Vec F S8192x32 .bf16) (a5 : Vec F S8192 .f32) : Vec F S1x8192 .f32 :=
  k0_pay3 a1 a3 a4 a2 (k0_pay10 a0 a1 a2 a3 a4 a5)

/-- A load of the whole of a block reads the block, and the one store through the whole rectangle leaves its payload. -/
theorem out7_eq (a0 : Vec F S6x1024x3072 .bf16) (a1 : Vec F S8192x3072 .fp8e4m3) (a2 : Vec F S8192 .f32) (a3 : Vec F S32x3072 .bf16) (a4 : Vec F S8192x32 .bf16) (a5 : Vec F S8192 .f32) : out0_7 (F := F) a0 a1 a2 a3 a4 a5 = G7 a0 a1 a2 a3 a4 a5 := by
  unfold out0_7
  rw [View.canon_unit_zero hz7, View.ld_unit_zero (S := S8192x3072) hz1 _ a1, View.ld_unit_zero (S := S32x3072) hz3 _ a3, View.ld_unit_zero (S := S8192x32) hz4 _ a4, View.ld_unit_zero (S := S8192) hz2 _ a2]

/-- Cutting the point's block out of `X` and reading `X` through the block's view give the same. -/
theorem cut7_eq (t : Fin cfg0.N) (X : Vec F S1x8192 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S1x8192.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S6x1024x3072 .bf16) (a1 : Vec F S8192x3072 .fp8e4m3) (a2 : Vec F S8192 .f32) (a3 : Vec F S32x3072 .bf16) (a4 : Vec F S8192x32 .bf16) (a5 : Vec F S8192 .f32) : Vec F S6144x3072 .fp8e4m3 :=
  k0_pay12 a0 a1 a2 a3 a4 a5

/-- The one store through the whole rectangle leaves its payload. -/
theorem out8_eq (a0 : Vec F S6x1024x3072 .bf16) (a1 : Vec F S8192x3072 .fp8e4m3) (a2 : Vec F S8192 .f32) (a3 : Vec F S32x3072 .bf16) (a4 : Vec F S8192x32 .bf16) (a5 : Vec F S8192 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S6144x3072 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S6144x3072.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S6x1024x3072 .bf16) (a1 : Vec F S8192x3072 .fp8e4m3) (a2 : Vec F S8192 .f32) (a3 : Vec F S32x3072 .bf16) (a4 : Vec F S8192x32 .bf16) (a5 : Vec F S8192 .f32) : Vec F S6x1x1024 .f32 :=
  k0_pay4 (k0_pay11 a0 a1 a2 a3 a4 a5)

/-- The one store through the whole rectangle leaves its payload. -/
theorem out9_eq (a0 : Vec F S6x1024x3072 .bf16) (a1 : Vec F S8192x3072 .fp8e4m3) (a2 : Vec F S8192 .f32) (a3 : Vec F S32x3072 .bf16) (a4 : Vec F S8192x32 .bf16) (a5 : Vec F S8192 .f32) : out0_9 (F := F) a0 a1 a2 a3 a4 a5 = G9 a0 a1 a2 a3 a4 a5 := by
  unfold out0_9
  rw [View.canon_unit_zero hz9]

/-- Cutting the point's block out of `X` and reading `X` through the block's view give the same. -/
theorem cut9_eq (t : Fin cfg0.N) (X : Vec F S6x1x1024 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S6x1x1024.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Whole

end
-- ==== Proof.RefRows.lean ====
module

public import proofs.«01_k».proof.Proof.Gen.ReferenceIdeal.Skeleton
public import proofs.«01_k».proof.Proof.Entries

/-!
# The reference's results at an index

Each payload of the reference, read at one index over the extended reals. A row of the flattened activations is
named by its batch `p` and its row `r` inside the batch: flat row `1024 * p + r`.
-/

@[expose] public section

set_option maxRecDepth 16384

noncomputable section

namespace Cert.ReferenceIdeal.Rows

open Idealize.ShloMosaic Idealize.SL.Sem Cert.ReferenceIdeal Cert.ReferenceIdeal.Gen Cert.Entries

/-- The flat row of row `r` of batch `p`. -/
def flat (p : Fin 6) (r : Fin 1024) : Fin 6144 := ⟨1024 * p.val + r.val, by omega⟩

/-- The activations flattened to rows. -/
theorem rows_apply (x : Vec Ideal S6x1024x3072 .bf16) (p : Fin 6) (r : Fin 1024) (k : Fin 3072) :
    k0_pay5 x (ix2 (flat p r) k) = x (ix3 p r k) := by
  unfold k0_pay5
  refine shapeCast_apply _ _ _ _ ?_
  refine (rowMajor_val3 _ 3145728 3072 rfl rfl).trans (Eq.trans ?_ (rowMajor_val2 _ 3072 rfl).symm)
  show p.val * 3145728 + r.val * 3072 + k.val = (1024 * p.val + r.val) * 3072 + k.val
  ring

/-- The scales laid out by batch. -/
theorem scales_apply (v : FVec Ideal S6144x1 .f32) (p : Fin 6) (r : Fin 1024) :
    k0_pay4 v (ix3 p 0 r) = v (ix2 (flat p r) 0) := by
  unfold k0_pay4
  refine shapeCast_apply _ _ _ _ ?_
  refine (rowMajor_val2 _ 1 rfl).trans (Eq.trans ?_ (rowMajor_val3 _ 1024 1024 rfl rfl).symm)
  show (1024 * p.val + r.val) * 1 + 0 = p.val * 1024 + 0 * 1024 + r.val
  ring

/-- The greatest magnitudes of the rows, as the reference computes them. -/
def maxCol (v : FVec Ideal S6144x3072 .f32) : FVec Ideal S6144x1 .f32 :=
  shapeCast S6144x1 (multiReduction .maximumf [1] S6144 (absf v) 0xFF800000#32 reduces_S6144x3072_S6144 (.inl rfl) rfl) shapeCasts_S6144_S6144x1

/-- The exponents of the rows, from the greatest magnitudes. -/
def expCol (v : FVec Ideal S6144x1 .f32) : FVec Ideal S6144x1 .f32 :=
  let r := mulf v (broadcast S6144x1 (Scalar.ofBits .f32 0x3B124925#32))
  select (andi (cmpf .oge r (broadcast S6144x1 (Scalar.ofBits .f32 0x00800000#32)))
      (cmpf .olt r (broadcast S6144x1 (Scalar.ofBits .f32 0x7B800000#32))))
    (addf (floor (divf (log r) (log (broadcast S6144x1 (Scalar.ofBits .f32 0x40000000#32)))))
      (broadcast S6144x1 (Scalar.ofBits .f32 0x3F800000#32)))
    (broadcast S6144x1 (Scalar.ofBits .f32 0x00000000#32))

/-- The codes, from the rows and their exponents. -/
def codeMat (v : FVec Ideal S6144x3072 .f32) (e : FVec Ideal S6144x1 .f32) : FVec Ideal S6144x3072 .fp8e4m3 :=
  truncf .fp8e4m3 (minimumf (broadcast S6144x3072 (Scalar.ofBits .f32 0x43E00000#32))
    (maximumf (broadcast S6144x3072 (Scalar.ofBits .f32 0xC3E00000#32))
      (mulf v (broadcastTo S6144x3072 (exp2 (subf (broadcast S6144x1 (Scalar.ofBits .f32 0x00000000#32)) e)) broadcasts_S6144x1_S6144x3072)))) bitsLt_fp8e4m3_f32

theorem maxCol_apply (v : FVec Ideal S6144x3072 .f32) (R : Fin 6144) : maxCol v (ix2 R 0) = rowMax (fun k => v (ix2 R k)) := by
  pointwise [maxCol]
  rw [negInf_f32]
  rfl

theorem expCol_apply (v : FVec Ideal S6144x1 .f32) (R : Fin 6144) :
    expCol v (ix2 R 0) = Cert.KernelIdeal.Gen.refExp (v (ix2 R 0) * Ideal.ofBits .f32 0x3B124925#32) := by
  pointwise [expCol, Cert.KernelIdeal.Gen.refExp]

theorem codeMat_apply (v : FVec Ideal S6144x3072 .f32) (e : FVec Ideal S6144x1 .f32) (R : Fin 6144) (k : Fin 3072) :
    codeMat v e (ix2 R k) = min (Ideal.ofBits .f32 0x43E00000#32) (max (Ideal.ofBits .f32 0xC3E00000#32)
      (v (ix2 R k) * Ideal.exp2 (0 - e (ix2 R 0)))) := by
  pointwise [codeMat]
  rfl

/-- The exponent of a row's scale. -/
theorem exponent_apply (x : Vec Ideal S6x1024x3072 .bf16) (p : Fin 6) (r : Fin 1024) :
    k0_pay7 x (ix2 (flat p r) 0) = exponent (fun k => x (ix3 p r k)) := by
  rw [show k0_pay7 x = expCol (maxCol (k0_pay5 x)) from rfl, expCol_apply, maxCol_apply]
  simp only [rows_apply]
  rw [exponent, ratio]

/-- The scale of a row. -/
theorem exp2_at (e : FVec Ideal S6144x1 .f32) (R : Fin 6144) : exp2 e (ix2 R 0) = Ideal.exp2 (e (ix2 R 0)) := rfl

theorem scale_apply (x : Vec Ideal S6x1024x3072 .bf16) (p : Fin 6) (r : Fin 1024) :
    k0_pay8 x (ix2 (flat p r) 0) = scale (fun k => x (ix3 p r k)) := by
  rw [show k0_pay8 x = exp2 (k0_pay7 x) from rfl, exp2_at, exponent_apply, scale]

/-- A code. -/
theorem code_apply (x : Vec Ideal S6x1024x3072 .bf16) (p : Fin 6) (r : Fin 1024) (k : Fin 3072) :
    k0_pay9 x (ix2 (flat p r) k) = code (fun k => x (ix3 p r k)) k := by
  rw [show k0_pay9 x = codeMat (k0_pay5 x) (k0_pay7 x) from rfl, codeMat_apply, exponent_apply, rows_apply, code]

/-- The norm of a row of the adapted weight. -/
theorem norm_apply (w : Vec Ideal S8192x3072 .fp8e4m3) (a : Vec Ideal S32x3072 .bf16) (b : Vec Ideal S8192x32 .bf16)
    (ws : Vec Ideal S8192 .f32) (n : Fin 8192) :
    k0_pay1 w a b ws (constant S8192x3072 .f32 0x00000000#32) (ix1 n)
      = norm (fun k => w (ix2 n k)) (ws (ix1 n)) (fun q => b (ix2 n q)) (fun q k => a (ix2 q k)) := by
  pointwise [k0_pay1]
  rfl

/-- The norms as a row. -/
theorem normRow_apply (w : Vec Ideal S8192x3072 .fp8e4m3) (a : Vec Ideal S32x3072 .bf16) (b : Vec Ideal S8192x32 .bf16)
    (ws : Vec Ideal S8192 .f32) (n : Fin 8192) :
    k0_pay3 w a b ws (constant S8192x3072 .f32 0x00000000#32) (ix2 0 n)
      = norm (fun k => w (ix2 n k)) (ws (ix1 n)) (fun q => b (ix2 n q)) (fun q k => a (ix2 q k)) := by
  pointwise [k0_pay3]
  exact norm_apply w a b ws n

/-- The output, from the norms `d`: an entry. -/
def outMat (x : FVec Ideal S6144x3072 .bf16) (w : FVec Ideal S8192x3072 .fp8e4m3) (a : FVec Ideal S32x3072 .bf16)
    (b : FVec Ideal S8192x32 .bf16) (ws mg : FVec Ideal S8192 .f32) (s : FVec Ideal S6144x1 .f32)
    (c : FVec Ideal S6144x3072 .fp8e4m3) (d : FVec Ideal S8192 .f32) : FVec Ideal S6144x8192 .bf16 :=
  truncf .bf16 (mulf (addf (mulf (mulf (matmul dot_S6144x3072_S8192x3072_S6144x8192_1_1_0_0_n_n none c w (constant S6144x8192 .f32 0x00000000#32))
          (broadcastTo S6144x8192 s broadcasts_S6144x1_S6144x8192))
        (broadcastTo S6144x8192 (shapeCast S1x8192 ws shapeCasts_S8192_S1x8192) broadcasts_S1x8192_S6144x8192))
      (matmul dot_S6144x32_S8192x32_S6144x8192_1_1_0_0_n_n none
        (truncf .bf16 (matmul dot_S6144x3072_S32x3072_S6144x32_1_1_0_0_n_n none x a (constant S6144x32 .f32 0x00000000#32)) bitsLt_bf16_f32)
        b (constant S6144x8192 .f32 0x00000000#32)))
    (broadcastTo S6144x8192 (shapeCast S1x8192 (divf mg d) shapeCasts_S8192_S1x8192) broadcasts_S1x8192_S6144x8192)) bitsLt_bf16_f32

theorem outMat_apply (x w a b ws mg s c d) (R : Fin 6144) (n : Fin 8192) :
    outMat x w a b ws mg s c d (ix2 R n)
      = ((∑ k : Fin 3072, c (ix2 R k) * w (ix2 n k)) * s (ix2 R 0) * ws (ix1 n)
          + ∑ q : Fin 32, (∑ k : Fin 3072, x (ix2 R k) * a (ix2 q k)) * b (ix2 n q)) * Ideal.div (mg (ix1 n)) (d (ix1 n)) := by
  pointwise [outMat]

/-- An entry of the output. -/
theorem out_apply (x : Vec Ideal S6x1024x3072 .bf16) (w : Vec Ideal S8192x3072 .fp8e4m3) (ws : Vec Ideal S8192 .f32)
    (a : Vec Ideal S32x3072 .bf16) (b : Vec Ideal S8192x32 .bf16) (mg : Vec Ideal S8192 .f32) (p : Fin 6) (r : Fin 1024) (n : Fin 8192) :
    k0_pay2 (k0_pay5 x) w a b ws mg (k0_pay8 x) (k0_pay9 x) (constant S8192x3072 .f32 0x00000000#32) (ix2 (flat p r) n)
      = out (fun k => x (ix3 p r k)) (fun k => w (ix2 n k)) (ws (ix1 n)) (fun q => b (ix2 n q)) (fun q k => a (ix2 q k)) (mg (ix1 n)) := by
  rw [show k0_pay2 (k0_pay5 x) w a b ws mg (k0_pay8 x) (k0_pay9 x) (constant S8192x3072 .f32 0x00000000#32)
      = outMat (k0_pay5 x) w a b ws mg (k0_pay8 x) (k0_pay9 x) (k0_pay1 w a b ws (constant S8192x3072 .f32 0x00000000#32)) from rfl,
    outMat_apply, norm_apply, scale_apply]
  simp only [rows_apply, code_apply]
  rw [out]

end Cert.ReferenceIdeal.Rows

end
-- ==== Proof.RefEntries.lean ====
module

public import proofs.«01_k».proof.Proof.RefRun
public import proofs.«01_k».proof.Proof.RefRows

/-!
# The reference's four results, entry by entry
-/

@[expose] public section

noncomputable section

namespace Cert.ReferenceIdeal.Rows

open Cert.ReferenceIdeal Cert.ReferenceIdeal.Gen Cert.ReferenceIdeal.Whole Cert.Entries Idealize.ShloMosaic

variable (a0 : Vec Ideal S6x1024x3072 .bf16) (a1 : Vec Ideal S8192x3072 .fp8e4m3) (a2 : Vec Ideal S8192 .f32)
  (a3 : Vec Ideal S32x3072 .bf16) (a4 : Vec Ideal S8192x32 .bf16) (a5 : Vec Ideal S8192 .f32)

theorem pay10_eq : k0_pay10 a0 a1 a2 a3 a4 a5 = constant S8192x3072 .f32 0x00000000#32 := rfl
theorem pay11_eq : k0_pay11 a0 a1 a2 a3 a4 a5 = k0_pay8 a0 := by
  unfold k0_pay11
  exact congrArg k0_pay8 (View.ld_unit_zero (S := S6x1024x3072) hz0 _ a0)
theorem pay12_eq : k0_pay12 a0 a1 a2 a3 a4 a5 = k0_pay9 a0 := by
  unfold k0_pay12
  exact congrArg k0_pay9 (View.ld_unit_zero (S := S6x1024x3072) hz0 _ a0)

theorem y_apply (p : Fin 6) (r : Fin 1024) (n : Fin 8192) :
    G6 a0 a1 a2 a3 a4 a5 (ix2 (flat p r) n)
      = out (fun k => a0 (ix3 p r k)) (fun k => a1 (ix2 n k)) (a2 (ix1 n)) (fun q => a4 (ix2 n q)) (fun q k => a3 (ix2 q k)) (a5 (ix1 n)) := by
  unfold G6
  rw [pay10_eq, pay11_eq, pay12_eq]
  exact out_apply a0 a1 a2 a3 a4 a5 p r n

theorem colNorm_apply (n : Fin 8192) :
    G7 a0 a1 a2 a3 a4 a5 (ix2 0 n)
      = Entries.norm (fun k => a1 (ix2 n k)) (a2 (ix1 n)) (fun q => a4 (ix2 n q)) (fun q k => a3 (ix2 q k)) := by
  unfold G7
  rw [pay10_eq]
  exact normRow_apply a1 a3 a4 a2 n

theorem codes_apply (p : Fin 6) (r : Fin 1024) (k : Fin 3072) :
    G8 a0 a1 a2 a3 a4 a5 (ix2 (flat p r) k) = code (fun k => a0 (ix3 p r k)) k := by
  unfold G8
  rw [pay12_eq]
  exact code_apply a0 p r k

theorem xs_apply (p : Fin 6) (r : Fin 1024) :
    G9 a0 a1 a2 a3 a4 a5 (ix3 p 0 r) = scale (fun k => a0 (ix3 p r k)) := by
  unfold G9
  rw [pay11_eq, scales_apply]
  exact scale_apply a0 p r

end Cert.ReferenceIdeal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Visit
public import proofs.«01_k».proof.Proof.Same
public import proofs.«01_k».proof.Proof.Final
public import proofs.«01_k».proof.Proof.RefEntries
public import Idealize.ShloMosaic.Adequacy
public import Idealize.ShloMosaic.Init

@[expose] public section

noncomputable section

namespace Cert.Proof

open Idealize.ShloMosaic Idealize.SL.Sem Cert.Kernel

/-- The kernel's four results are the reference's four functions of the argument arrays. -/
theorem value : Cert.algebraic_KernelIdeal_ReferenceIdeal := by
  intro m g m' g' _ ha
  refine ⟨fun c => ReferenceIdeal.Whole.G6 (KernelIdeal.Whole.acts m c) (KernelIdeal.Whole.weights m c) (KernelIdeal.Whole.wscales m c) (KernelIdeal.Whole.loraA m c) (KernelIdeal.Whole.loraB m c) (KernelIdeal.Whole.mags m c),
    fun c => ReferenceIdeal.Whole.G7 (KernelIdeal.Whole.acts m c) (KernelIdeal.Whole.weights m c) (KernelIdeal.Whole.wscales m c) (KernelIdeal.Whole.loraA m c) (KernelIdeal.Whole.loraB m c) (KernelIdeal.Whole.mags m c),
    fun c => ReferenceIdeal.Whole.G8 (KernelIdeal.Whole.acts m c) (KernelIdeal.Whole.weights m c) (KernelIdeal.Whole.wscales m c) (KernelIdeal.Whole.loraA m c) (KernelIdeal.Whole.loraB m c) (KernelIdeal.Whole.mags m c),
    fun c => ReferenceIdeal.Whole.G9 (KernelIdeal.Whole.acts m c) (KernelIdeal.Whole.weights m c) (KernelIdeal.Whole.wscales m c) (KernelIdeal.Whole.loraA m c) (KernelIdeal.Whole.loraB m c) (KernelIdeal.Whole.mags m c), ?_, ?_⟩
  · exact KernelIdeal.Whole.run m g _ _ _ _
      (fun c p r n => ReferenceIdeal.Rows.y_apply _ _ _ _ _ _ p r n)
      (fun c n => ReferenceIdeal.Rows.colNorm_apply _ _ _ _ _ _ n)
      (fun c p r k => ReferenceIdeal.Rows.codes_apply _ _ _ _ _ _ p r k)
      (fun c p r => ReferenceIdeal.Rows.xs_apply _ _ _ _ _ _ p r)
  · refine (θ_run ReferenceIdeal.defs _ _).mono (fun r h c => ?_) (ReferenceIdeal.Whole.run m' g')
    obtain ⟨e0, e1, e2, e3, e4, e5⟩ := ha c
    obtain ⟨h6, h7, h8, h9, hargs⟩ := h c
    rw [e0, e1, e2, e3, e4, e5] at h6 h7 h8 h9
    exact ⟨h6, h7, h8, h9, hargs⟩

theorem claim : Cert.Claim := ⟨Cert.Kernel.Gen.facts, Cert.KernelIdeal.Gen.facts, Cert.ReferenceIdeal.Gen.facts,
  fun m ρ _ => kernel_frame m ρ, fun m ρ _ => Cert.KernelIdeal.Gen.frame m ρ,
  fun m ρ _ => Cert.ReferenceIdeal.Gen.frame m ρ, trivial, value⟩

end Cert.Proof

end
